-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S2x1024x2048 : Shape := ⟨3, ![2, 1024, 2048]⟩
abbrev S2x2048x1024 : Shape := ⟨3, ![2, 2048, 1024]⟩
abbrev S12x64x512 : Shape := ⟨3, ![12, 64, 512]⟩
abbrev S2 : Shape := ⟨1, ![2]⟩
abbrev S12 : Shape := ⟨1, ![12]⟩
abbrev S1 : Shape := ⟨1, ![1]⟩
abbrev S_ : Shape := ⟨0, ![]⟩
abbrev S1x1024x2048 : Shape := ⟨3, ![1, 1024, 2048]⟩
abbrev S1x2048x1024 : Shape := ⟨3, ![1, 2048, 1024]⟩
abbrev S64x2048 : Shape := ⟨2, ![64, 2048]⟩
abbrev S2048x512 : Shape := ⟨2, ![2048, 512]⟩
abbrev S64x512 : Shape := ⟨2, ![64, 512]⟩
abbrev S1x64x512 : Shape := ⟨3, ![1, 64, 512]⟩
abbrev S512x2048 : Shape := ⟨2, ![512, 2048]⟩

abbrev nBuf : Space → Nat
  | .hbm => 8
  | .vmem => 6
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S2048x1024, .f32⟩
  | .hbm, ⟨3, _⟩ => ⟨S1024x2048, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S64x1024, .f32⟩
  | .local _ .vmem, ⟨0, _⟩ => ⟨S64x1024, .f32⟩
  | .local _ .vmem, ⟨1, _⟩ => ⟨S64x1024, .f32⟩
  | .local _ .vmem, ⟨2, _⟩ => ⟨S2x1024x2048, .f32⟩
  | .local _ .vmem, ⟨3, _⟩ => ⟨S2x2048x1024, .f32⟩
  | .local _ .vmem, ⟨4, _⟩ => ⟨S12x64x512, .bf16⟩
  | .local _ .vmem, ⟨5, _⟩ => ⟨S12x64x512, .bf16⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_17 : BitVec 32 := 1#32
  let v22 : BitVec 32 := Scalar.muli v3 c1_i32_17
  let v23 : BitVec 32 := Scalar.addi c0_i32_18 v22
  v23.toNat
def k0_dev2 (d0 : Dev nD) : Nat :=
  let c0_i32_21 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_20 : BitVec 32 := 1#32
  let v24 : BitVec 32 := Scalar.muli v4 c1_i32_20
  let v25 : BitVec 32 := Scalar.addi c0_i32_21 v24
  v25.toNat
def k0_dev3 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_46 : BitVec 32 := 1#32
  let v53 : BitVec 32 := Scalar.muli v3 c1_i32_46
  let v54 : BitVec 32 := Scalar.addi c0_i32_47 v53
  v54.toNat
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_59 : BitVec 32 := 1#32
  let v69 : BitVec 32 := Scalar.muli v3 c1_i32_59
  let v70 : BitVec 32 := Scalar.addi c0_i32_60 v69
  v70.toNat
def k0_dev5 (d0 : Dev nD) : Nat :=
  let c0_i32_93 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_92 : BitVec 32 := 1#32
  let v103 : BitVec 32 := Scalar.muli v4 c1_i32_92
  let v104 : BitVec 32 := Scalar.addi c0_i32_93 v103
  v104.toNat
def k0_dev6 (d0 : Dev nD) : Nat :=
  let c0_i32_118 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_117 : BitVec 32 := 1#32
  let v129 : BitVec 32 := Scalar.muli v4 c1_i32_117
  let v130 : BitVec 32 := Scalar.addi c0_i32_118 v129
  v130.toNat
def k0_dev7 (d0 : Dev nD) : Nat :=
  let c0_i32_174 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_173 : BitVec 32 := 1#32
  let v193 : BitVec 32 := Scalar.muli v3 c1_i32_173
  let v194 : BitVec 32 := Scalar.addi c0_i32_174 v193
  v194.toNat
def k0_dev8 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_185 : BitVec 32 := 1#32
  let v209 : BitVec 32 := Scalar.muli v3 c1_i32_185
  let v210 : BitVec 32 := Scalar.addi c0_i32_186 v209
  v210.toNat
def k0_dev9 (d0 : Dev nD) : Nat :=
  let c0_i32_210 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_209 : BitVec 32 := 1#32
  let v235 : BitVec 32 := Scalar.muli v4 c1_i32_209
  let v236 : BitVec 32 := Scalar.addi c0_i32_210 v235
  v236.toNat
def k0_dev10 (d0 : Dev nD) : Nat :=
  let c0_i32_234 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_233 : BitVec 32 := 1#32
  let v261 : BitVec 32 := Scalar.muli v4 c1_i32_233
  let v262 : BitVec 32 := Scalar.addi c0_i32_234 v261
  v262.toNat
def k0_dev11 (d0 : Dev nD) : Nat :=
  let c0_i32_289 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_288 : BitVec 32 := 1#32
  let v325 : BitVec 32 := Scalar.muli v3 c1_i32_288
  let v326 : BitVec 32 := Scalar.addi c0_i32_289 v325
  v326.toNat
def k0_dev12 (d0 : Dev nD) : Nat :=
  let c0_i32_301 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_300 : BitVec 32 := 1#32
  let v341 : BitVec 32 := Scalar.muli v3 c1_i32_300
  let v342 : BitVec 32 := Scalar.addi c0_i32_301 v341
  v342.toNat
def k0_dev13 (d0 : Dev nD) : Nat :=
  let c0_i32_325 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_324 : BitVec 32 := 1#32
  let v367 : BitVec 32 := Scalar.muli v4 c1_i32_324
  let v368 : BitVec 32 := Scalar.addi c0_i32_325 v367
  v368.toNat
def k0_dev14 (d0 : Dev nD) : Nat :=
  let c0_i32_349 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_348 : BitVec 32 := 1#32
  let v393 : BitVec 32 := Scalar.muli v4 c1_i32_348
  let v394 : BitVec 32 := Scalar.addi c0_i32_349 v393
  v394.toNat
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x1024 : Shape := ⟨2, ![64, 1024]⟩
abbrev S1024x8192 : Shape := ⟨2, ![1024, 8192]⟩
abbrev S8192x1024 : Shape := ⟨2, ![8192, 1024]⟩
abbrev S64x8192 : Shape := ⟨2, ![64, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S1024x8192, .f32⟩
  | .hbm, ⟨2, _⟩ => ⟨S8192x1024, .f32⟩
  | .hbm, ⟨3, _⟩ => ⟨S1024x8192, .f32⟩
  | .hbm, ⟨4, _⟩ => ⟨S8192x1024, .f32⟩
  | .hbm, ⟨5, _⟩ => ⟨S1024x8192, .f32⟩
  | .hbm, ⟨6, _⟩ => ⟨S8192x1024, .f32⟩
  | .hbm, ⟨7, _⟩ => ⟨S64x8192, .f32⟩
  | .hbm, ⟨8, _⟩ => ⟨S_, .f32⟩
  | .hbm, ⟨9, _⟩ => ⟨S64x8192, .f32⟩
  | .hbm, ⟨10, _⟩ => ⟨S64x8192, .f32⟩
  | .hbm, ⟨11, _⟩ => ⟨S64x1024, .f32⟩
  | .hbm, ⟨12, _⟩ => ⟨S64x8192, .f32⟩
  | .hbm, ⟨13, _⟩ => ⟨S_, .f32⟩
  | .hbm, ⟨14, _⟩ => ⟨S64x8192, .f32⟩
  | .hbm, ⟨15, _⟩ => ⟨S64x8192, .f32⟩
  | .hbm, ⟨16, _⟩ => ⟨S64x1024, .f32⟩
  | .hbm, ⟨17, _⟩ => ⟨S64x8192, .f32⟩
  | .hbm, ⟨18, _⟩ => ⟨S_, .f32⟩
  | .hbm, ⟨19, _⟩ => ⟨S64x8192, .f32⟩
  | .hbm, ⟨20, _⟩ => ⟨S64x8192, .f32⟩
  | .hbm, ⟨21, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.KernelIdealSlots.lean ====
/-
# The kernel's buffers in slots

The kernel keeps its weights and its messages in buffers cut along their first axis into slots. This module holds the
resource algebra of the proof, one slot of a buffer as a resource (`owns` of a slice), and what a load, a store, a local
copy and a remote copy do to it.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.ViewIndex
public import Idealize.ShloMosaic.Lib.Ring
public import Idealize.ShloMosaic.Lib.Tactic

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-! ## The resource algebra: the pipeline's rounds, the exchange's rounds, the local copies' counters -/

abbrev UX : Type := URounds (GSem nD τ sig) Bool
abbrev UU : Type := UR sig nD τ × (UX × Counters)

local notation "𝕄" => MT nD τ sig Unit (Elt F) ℕ UU ℕ

abbrev EP : Emb (UR sig nD τ) (MT nD τ sig Unit (Elt F) ℕ UU ℕ) := embL
/-- The exchange's rounds live in the left half of the right factor. -/
def ER : Emb UX (MT nD τ sig Unit (Elt F) ℕ UU ℕ) := (Emb.inl : Emb UX (UX × Counters)).trans embR
/-- The exchange's rounds may be kept in invariants. -/
instance ER_landsIn : (ER : Emb UX 𝕄).LandsIn (upEmb : UEmb _ 𝕄) := by unfold ER; infer_instance
abbrev EC : UEmb Counters (MT nD τ sig Unit (Elt F) ℕ UU ℕ) := countersEmb

abbrev 𝒱₀ : Variants := Variants.none

/-! ## One slot as a resource -/

section Slot

variable {sp : Space} {s : Shape} {e : EltTy}

/-- A slice of a buffer at any contents. -/
abbrev ownsAny (c : Dev nD) (b : Memref sig .tc sp s e) : sProp 𝕄 :=
  iprop(∃ p, owns (c : Thread nD τ) b fullShare p)

omit [FloatOps F] in
/-- The elements under a view at any contents are the slice at any contents. -/
theorem ownsAny_of_pts (c : Dev nD) (b : Memref sig .tc sp s e) (f : Buf (Elt F) (b.view.loc (c : Thread nD τ))) :
    (b.view.loc (c : Thread nD τ) ↦[b.view.set]{fullShare} f : sProp 𝕄) ⊢ ownsAny c b := by
  unfold ownsAny owns
  iintro H
  iexists _
  iexists f
  isplitr
  · ipureintro; rfl
  iexact H

omit [FloatOps F] in
/-- And the slice at any contents is the elements under its view at some contents. -/
theorem pts_of_ownsAny (c : Dev nD) (b : Memref sig .tc sp s e) :
    (ownsAny c b : sProp 𝕄) ⊢ iprop(∃ f : Buf (Elt F) (b.view.loc (c : Thread nD τ)), b.view.loc (c : Thread nD τ) ↦[b.view.set]{fullShare} f) := by
  unfold ownsAny owns
  iintro ⟨%p, %f, -, H⟩
  iexists f
  iexact H

/-- A load of a slice reads what the slice holds. -/
theorem wp_load_owns {α : Type} {Q : α → sProp 𝕄} (c : Dev nD) {cs : CoreSpace} {b : Memref sig .tc cs s e} {r : Rect s} (hr : ∀ a, r.stride a = 1)
    {hl : b.view.LoadsAt r.toLoadRect} {q : PosShare TreeShare}
    {k : (r.toLoadRect.shape.Idx → Elt F e) → Prog (TpuEff nD τ sig (Elt F) Λ₀ .tc) α} (p : r.shape.Idx → Elt F e) :
    (owns (c : Thread nD τ) (b.slice r hr) q p : sProp 𝕄)
      ⊢ iprop((owns (c : Thread nD τ) (b.slice r hr) q p -∗ wp frame (wpE (defs₀ (F := F)) 𝒱₀ (c : Thread nD τ) none) Set.univ (k p) Q)
          -∗ wp frame (wpE (defs₀ (F := F)) 𝒱₀ (c : Thread nD τ) none) Set.univ (.op (.load b r.toLoadRect hl) k) Q) := by
  unfold owns
  iintro ⟨%f, %hf, H⟩ Hk
  subst hf
  iapply (wp_load_rect 𝒱₀ (c : Thread nD τ) none Set.univ (m := b) (r := r) (hl := hl) (Finset.Subset.refl _)) $$ H
  iintro H
  iapply Hk
  iexists f
  isplitr
  · ipureintro; rfl
  iexact H

/-- A store over a slice leaves it holding what was stored. -/
theorem wp_store_owns {α : Type} {Q : α → sProp 𝕄} (c : Dev nD) {cs : CoreSpace} {b : Memref sig .tc cs s e} {r : Rect s} (hr : ∀ a, r.stride a = 1)
    {w : r.shape.Idx → Elt F e} {hx : (b.access r).Stores Finset.univ} {hm : (Finset.univ : Finset r.shape.Idx) = Finset.univ ∨ ∀ a, r.stride a = 1}
    {k : PUnit → Prog (TpuEff nD τ sig (Elt F) Λ₀ .tc) α} :
    (ownsAny c (b.slice r hr) : sProp 𝕄)
      ⊢ iprop((owns (c : Thread nD τ) (b.slice r hr) fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store b r w Finset.univ hx hm) k) Q) := by
  unfold ownsAny owns
  iintro ⟨%p, %f, -, H⟩ Hk
  iapply (wp_store 𝒱₀ (c : Thread nD τ) none Set.univ (m := b) (r := r) (w := w) (Mk := Finset.univ) (hx := hx) (hm := hm)
    (S := (b.access r).set) (View.setOn_univ _).subset) $$ H
  iintro H
  iapply Hk
  iexists _
  isplitr
  · ipureintro; exact View.read_write_univ (v := b.access r) f w
  iexact H

omit [FloatOps F] in
/-- Writing a slice through its squeeze leaves the slice reading the written vector at the matched indices. -/
theorem read_write_squeeze {s' : Shape} (b : Memref sig .tc sp s e) (h : s.Squeezes s') (hc : s'.ShapeCasts s)
    (f : b.view.ty.Contents (Elt F)) (w : s'.Idx → Elt F e) :
    b.view.read (Elt F) ((b.squeeze s' h).view.write (Elt F) f w Finset.univ) = shapeCast s w hc := by
  funext x
  obtain ⟨y, rfl⟩ := (Shape.reshapeEquiv h.numel_eq).surjective x
  refine (View.read_write_reshape b.view h.numel_eq f w y).trans ?_
  unfold shapeCast
  exact congrArg w (Shape.reshapeEquiv_eq_of_rowMajor _ (Shape.rowMajor_reshapeEquiv _ _).symm).symm

omit [FloatOps F] in
/-- The elements under a squeezed slice, written at a vector, are the slice holding that vector under its own shape. -/
theorem owns_of_squeeze_write {s' : Shape} (c : Dev nD) (b : Memref sig .tc sp s e) (h : s.Squeezes s') (hc : s'.ShapeCasts s)
    (f : Buf (Elt F) (b.view.loc (c : Thread nD τ))) (w : s'.Idx → Elt F e) (p : s.Idx → Elt F e) (hp : shapeCast s w hc = p) :
    ((b.squeeze s' h).view.loc (c : Thread nD τ) ↦[(b.squeeze s' h).view.set]{fullShare}
        ((b.squeeze s' h).view.write (Elt F) f w Finset.univ) : sProp 𝕄)
      ⊢ owns (c : Thread nD τ) b fullShare p := by
  unfold owns
  iintro H
  iexists ((b.squeeze s' h).view.write (Elt F) f w Finset.univ)
  isplitr
  · ipureintro; exact (read_write_squeeze b h hc f w).trans hp
  · rw [show (b.squeeze s' h).view.set = b.view.set from View.set_reshape _ _]
    iexact H

end Slot

/-! ## The local copies of the weights -/

section Fetch

variable {s s' : Shape} {e : EltTy}

/-- A whole array `A` holding `v` in flight to the slot `b` on semaphore `q`: the wait will find the slot holding `v`. -/
def Fetching (c : Dev nD) (q : DmaSem sig) (A : Memref sig .tc .hbm s' e) (b : Memref sig .tc .vmem s e) (h : s.Squeezes s')
    (hc : s'.ShapeCasts s) (v : s'.Idx → Elt F e) : sProp 𝕄 :=
  Flight EC (c : Thread nD τ) (.dma q) () (b.squeeze s' h).view.dmaCredit
    iprop(owns (c : Thread nD τ) b fullShare (shapeCast s v hc) ∗ owns (c : Thread nD τ) A fullShare v)

/-- Issuing the local copy of an array into a slot. -/
theorem wp_fetch {α : Type} {Q : α → sProp 𝕄} (c : Dev nD) {q : DmaSem sig} {A : Memref sig .tc .hbm s' e} {b : Memref sig .tc .vmem s e} {h : s.Squeezes s'}
    (hc : s'.ShapeCasts s) (hpos : 0 < s'.numel)
    {hsrc : A.view.WordExact} {hdst : (b.squeeze s' h).view.WordExact}
    {hsem : DmaTarget.Typed (nD := nD) (τ := τ) (p := .tc) .hbm (.dma q) (.here (b.squeeze s' h))}
    {k : PUnit → Prog (TpuEff nD τ sig (Elt F) Λ₀ .tc) α} (v : s'.Idx → Elt F e) :
    iprop(owns (c : Thread nD τ) A fullShare v ∗ ownsAny c b ∗ semVal ((c : Thread nD τ), .dma q) 0 : sProp 𝕄)
      ⊢ iprop((Fetching c q A b h hc v -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma A (.here (b.squeeze s' h)) (.dma q) hsrc hdst hsem) k) Q) := by
  iintro ⟨HA, Hb, Hv⟩ Hk
  ihave Hb' := (pts_of_ownsAny c b) $$ Hb
  icases Hb' with ⟨%fd, Hb⟩
  unfold owns
  icases HA with ⟨%fs, %hfs, HA⟩
  iapply (wp_dmaLocal EC 𝒱₀ (c : Thread nD τ) none (src := A) (dst := b.squeeze s' h) (sm := .dma q) (q := fullShare) (fs := fs)
    (Sd := b.view.set) (fd := fd) () _ rfl (View.dmaCredit_pos _ hpos) (View.set_reshape _ _).subset) $$ [HA Hb Hv]
  · isplitl [HA]; · iexact HA
    isplitl [Hb]; · iexact Hb
    iexact Hv
  iintro HF
  iapply Hk
  unfold Fetching
  iapply (Flight_mono EC (c : Thread nD τ) ?_) $$ HF
  iintro ⟨Hd, Hs⟩
  isplitl [Hd]
  · iapply (owns_of_squeeze_write c b h hc fd (A.view.read (Elt F) fs) _ (by rw [hfs]))
    rw [show (b.squeeze s' h).view.set = b.view.set from View.set_reshape _ _]
    iexact Hd
  · unfold owns
    iexists fs
    isplitr
    · ipureintro; exact hfs
    iexact Hs

/-- Waiting for it: the slot holds the array's contents, the array is back, the semaphore is at zero. -/
theorem wp_fetched {α : Type} {Q : α → sProp 𝕄} (c : Dev nD) {q : DmaSem sig} {A : Memref sig .tc .hbm s' e} {b : Memref sig .tc .vmem s e} {h : s.Squeezes s'}
    (hc : s'.ShapeCasts s) {hsrc : A.view.WordExact} {hdst : (b.squeeze s' h).view.WordExact}
    {k : PUnit → Prog (TpuEff nD τ sig (Elt F) Λ₀ .tc) α} (v : s'.Idx → Elt F e) (O : CellTallies nD τ sig Unit) (W : Waits sig Unit) :
    iprop(Fetching c q A b h hc v ∗ owes (c : Thread nD τ) O W ∗ MayWait (c : Thread nD τ) (.dma q) () O : sProp 𝕄)
      ⊢ iprop((iprop((owns (c : Thread nD τ) b fullShare (shapeCast s v hc) ∗ owns (c : Thread nD τ) A fullShare v ∗ semVal ((c : Thread nD τ), .dma q) 0)
              ∗ owes (c : Thread nD τ) O (insert (SemLoc.dma q, ()) W))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q A (b.squeeze s' h) hsrc hdst) k) Q) := by
  unfold Fetching
  iintro H Hk
  iapply (wp_waitLocalO EC 𝒱₀ (c : Thread nD τ) none () rfl) $$ H
  iintro ⟨⟨Hb, HA⟩, Hv, HO⟩
  iapply Hk
  isplitl [Hb HA Hv]
  · isplitl [Hb]; · iexact Hb
    isplitl [HA] <;> iassumption
  iexact HO

end Fetch

end Cert.KernelIdealProof

end
-- ==== Proof.KernelIdealContents.lean ====
/-
# What every message and every accumulator holds

The kernel runs three layers. In each a device multiplies the activations by its column block of the first weights, takes
the positive part, multiplies by its row block of the second weights in two halves of 512 columns, and sums the halves over
the four devices in two exchanges, first with one partner and then with the other. This module names what each device holds
at each step as a function of the arguments of all devices, and the 12 messages among them.
-/
module

public import proofs.«01_k».proof.Proof.KernelIdealSlots

@[expose] public section

set_option maxRecDepth 16384

noncomputable section

namespace Cert.KernelIdealProof

open Cert.KernelIdeal Cert.KernelIdeal.Gen
open Idealize.ShloMosaic
open Idealize.ShloMosaic.TcCoe

variable {F : FTy → Type} [FloatOps F]

/-! ## The partners -/

set_option backward.proofsInPublic true in
/-- The partner whose number differs in the last bit. -/
def p1 (c : Dev nD) : Dev nD := ⟨c.val ^^^ 1, by revert c; decide⟩
set_option backward.proofsInPublic true in
/-- The partner whose number differs in both bits. -/
def p2 (c : Dev nD) : Dev nD := ⟨3 - c.val, by revert c; decide⟩

/-- A partner: the second if the flag is set, else the first. -/
def pr (b : Bool) (c : Dev nD) : Dev nD := if b then p2 c else p1 c
/-- Which partner exchange `e` is with: exchanges 0, 1, 4, 5, 8, 9 are with the first, the others with the second. -/
def kind (e : Fin 12) : Bool := decide (2 ≤ e.val % 4)
/-- The device exchange `e` is with. -/
def peer (e : Fin 12) (c : Dev nD) : Dev nD := pr (kind e) c

theorem p1_p1 (c : Dev nD) : p1 (p1 c) = c := by revert c; decide
theorem p2_p2 (c : Dev nD) : p2 (p2 c) = c := by revert c; decide
theorem p1_ne_p2 (c : Dev nD) : p1 c ≠ p2 c := by revert c; decide
/-- The partner of a partner is the device itself. -/
theorem pr_pr (b : Bool) (c : Dev nD) : pr b (pr b c) = c := by cases b; exacts [p1_p1 c, p2_p2 c]
/-- Exchanges are mutual. -/
theorem peer_peer (e : Fin 12) (c : Dev nD) : peer e (peer e c) = c := pr_pr _ _

/-! ## The arguments -/

/-- A device's arguments: the activations, and its blocks of the three layers' weights. -/
structure Ins (F : FTy → Type) where
  x : Vec F S64x1024 .f32
  w0 : Vec F S1024x2048 .f32
  u0 : Vec F S2048x1024 .f32
  w1 : Vec F S1024x2048 .f32
  u1 : Vec F S2048x1024 .f32
  w2 : Vec F S1024x2048 .f32
  u2 : Vec F S2048x1024 .f32

theorem castW : S1024x2048.ShapeCasts S1x1024x2048 := by decide
theorem castU : S2048x1024.ShapeCasts S1x2048x1024 := by decide

/-- A first weight block as its slot holds it. -/
def inW (w : Vec F S1024x2048 .f32) : Vec F S1x1024x2048 .f32 := shapeCast S1x1024x2048 w castW
/-- A second weight block as its slot holds it. -/
def inU (u : Vec F S2048x1024 .f32) : Vec F S1x2048x1024 .f32 := shapeCast S1x2048x1024 u castU

section Contents
variable (I : Dev nD → Ins F) (c : Dev nD)

/-! ## Layer 0 -/

/-- The hidden activations of layer 0. -/
def hid0 : FVec F S64x2048 .bf16 := k0_pay1 (I c).x (inW (I c).w0)
/-- The device's own product, columns 0 to 511 … -/
def a0 : FVec F S64x512 .f32 := k0_pay3 (I c).x (inW (I c).w0) (inU (I c).u0)
/-- … and as it is sent. -/
def P0 : FVec F S1x64x512 .bf16 := k0_pay4 (I c).x (inW (I c).w0) (inU (I c).u0)
/-- The device's own product, columns 512 to 1023 … -/
def a1 : FVec F S64x512 .f32 := k0_pay5 (hid0 I c) (k0_pay2 (inU (I c).u0))
/-- … and as it is sent. -/
def P1 : FVec F S1x64x512 .bf16 := k0_pay6 (hid0 I c) (k0_pay2 (inU (I c).u0))
/-- The sum of two devices' products, the first half of the columns … -/
def s0 : FVec F S64x512 .f32 := k0_pay7 (a0 I c) (P0 I (p1 c))
def P2 : FVec F S1x64x512 .bf16 := k0_pay8 (a0 I c) (P0 I (p1 c))
/-- … and the second. -/
def s1 : FVec F S64x512 .f32 := k0_pay9 (a1 I c) (P1 I (p1 c))
def P3 : FVec F S1x64x512 .bf16 := k0_pay10 (a1 I c) (P1 I (p1 c))

/-! ## Layer 1 -/

def g1 : FVec F S1024x2048 .bf16 := k0_pay11 (inW (I c).w1)
/-- The first half of layer 1's first product, over the first 512 columns of the summed activations. -/
def t1 : FVec F S64x2048 .f32 := k0_pay12 (s0 I c) (inW (I c).w1) (P2 I (p2 c))
/-- The hidden activations of layer 1. -/
def hid1 : FVec F S64x2048 .bf16 := k0_pay13 (s1 I c) (g1 I c) (t1 I c) (P3 I (p2 c))
def b0 : FVec F S64x512 .f32 := k0_pay15 (s1 I c) (g1 I c) (t1 I c) (P3 I (p2 c)) (inU (I c).u1)
def P4 : FVec F S1x64x512 .bf16 := k0_pay16 (s1 I c) (g1 I c) (t1 I c) (P3 I (p2 c)) (inU (I c).u1)
def b1 : FVec F S64x512 .f32 := k0_pay17 (hid1 I c) (k0_pay14 (inU (I c).u1))
def P5 : FVec F S1x64x512 .bf16 := k0_pay18 (hid1 I c) (k0_pay14 (inU (I c).u1))
def c0 : FVec F S64x512 .f32 := k0_pay19 (b0 I c) (P4 I (p1 c))
def P6 : FVec F S1x64x512 .bf16 := k0_pay20 (c0 I c)
def c1 : FVec F S64x512 .f32 := k0_pay21 (b1 I c) (P5 I (p1 c))
def P7 : FVec F S1x64x512 .bf16 := k0_pay23 (k0_pay22 (b1 I c) (P5 I (p1 c)))

/-! ## Layer 2 -/

/-- The hidden activations of layer 2. -/
def hid2 : FVec F S64x2048 .bf16 := k0_pay25 (c0 I c) (c1 I c) (k0_pay24 (inW (I c).w2)) (P6 I (p2 c)) (P7 I (p2 c))
def d0 : FVec F S64x512 .f32 := k0_pay28 (hid2 I c) (k0_pay27 (inU (I c).u2))
def P8 : FVec F S1x64x512 .bf16 := k0_pay29 (hid2 I c) (k0_pay27 (inU (I c).u2))
def d1 : FVec F S64x512 .f32 := k0_pay30 (hid2 I c) (k0_pay26 (inU (I c).u2))
def P9 : FVec F S1x64x512 .bf16 := k0_pay31 (hid2 I c) (k0_pay26 (inU (I c).u2))
def e0 : FVec F S64x512 .f32 := k0_pay32 (d0 I c) (P8 I (p1 c))
def P10 : FVec F S1x64x512 .bf16 := k0_pay33 (d0 I c) (P8 I (p1 c))
def e1 : FVec F S64x512 .f32 := k0_pay34 (d1 I c) (P9 I (p1 c))
def P11 : FVec F S1x64x512 .bf16 := k0_pay35 (d1 I c) (P9 I (p1 c))
/-- The result, columns 0 to 511 … -/
def o0 : FVec F S64x512 .f32 := k0_pay36 (e0 I c) (P10 I (p2 c))
/-- … and columns 512 to 1023. -/
def o1 : FVec F S64x512 .f32 := k0_pay37 (e1 I c) (P11 I (p2 c))

end Contents

/-- The message of exchange `e` from device `c`. -/
def P (I : Dev nD → Ins F) (e : Fin 12) (c : Dev nD) : Vec F S1x64x512 .bf16 :=
  match e with
  | 0 => P0 I c | 1 => P1 I c | 2 => P2 I c | 3 => P3 I c | 4 => P4 I c | 5 => P5 I c
  | 6 => P6 I c | 7 => P7 I c | 8 => P8 I c | 9 => P9 I c | 10 => P10 I c | 11 => P11 I c

end Cert.KernelIdealProof

end
-- ==== Proof.KernelIdealExchange.lean ====
/-
# The exchanges

Twelve messages per device, each in its own slot of the send and of the receive buffer and on its own pair of semaphores,
behind one handshake on the barrier semaphore. This module states the schedule of the cells, what each device owes and when,
and what one exchange's steps do: the remote copy out (`wp_xsend`), the wait for the partner's message (`wp_xrecv`), the wait for
the own message to have left (`wp_xdone`), and the handshake's signals and wait.
-/
module

public import proofs.«01_k».proof.Proof.KernelIdealContents

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slots and semaphores -/

theorem slot_inb (e : Fin 12) : ∀ a, (![e.val, 0, 0] : Fin 3 → Nat) a + S1x64x512.size a ≤ S12x64x512.size a := by
  revert e; decide

/-- The elements of slot `e`. -/
abbrev slotRect (e : Fin 12) : Rect S12x64x512 := Rect.unit (s := S12x64x512) ![e.val, 0, 0] S1x64x512.size (slot_inb e)
/-- Slot `e` of the send buffer. -/
abbrev sndSlot (e : Fin 12) : Memref sig .tc .vmem S1x64x512 .bf16 := (Memref.whole cc0_scratch2).slice (slotRect e) (fun _ => rfl)
/-- Slot `e` of the receive buffer. -/
abbrev rcvSlot (e : Fin 12) : Memref sig .tc .vmem S1x64x512 .bf16 := (Memref.whole cc0_scratch3).slice (slotRect e) (fun _ => rfl)
/-- The same slots as the copies name them, their one-element axis dropped. -/
abbrev sndMsg (e : Fin 12) : Memref sig .tc .vmem S64x512 .bf16 := (sndSlot e).squeeze S64x512 squeezes_S1x64x512_S64x512
abbrev rcvMsg (e : Fin 12) : Memref sig .tc .vmem S64x512 .bf16 := (rcvSlot e).squeeze S64x512 squeezes_S1x64x512_S64x512

abbrev barS : Sem sig := (SemArray.scalar (sig.barrier 0 rfl) : Sems sig S_).sem
set_option backward.proofsInPublic true in
def sendS (e : Fin 12) : DmaSem sig := ⟨6 + e.val, by revert e; decide⟩
set_option backward.proofsInPublic true in
def recvS (e : Fin 12) : DmaSem sig := ⟨18 + e.val, by revert e; decide⟩

abbrev barCell (c : Dev nD) : GSem nD τ sig := ((c : Thread nD τ), .reg barS)
abbrev sendCell (c : Dev nD) (e : Fin 12) : GSem nD τ sig := ((c : Thread nD τ), .dma (sendS e))
abbrev recvCell (c : Dev nD) (e : Fin 12) : GSem nD τ sig := ((c : Thread nD τ), .dma (recvS e))

/-- A device's cells: the barrier's, the twelve send cells, the twelve receive cells. -/
abbrev Cell : Type := Unit ⊕ (Fin 12 ⊕ Fin 12)
abbrev csem : Cell → SemLoc sig
  | .inl _ => .reg barS
  | .inr (.inl e) => .dma (sendS e)
  | .inr (.inr e) => .dma (recvS e)
abbrev kcell (ck : Dev nD × Cell) : GSem nD τ sig := ((ck.1 : Thread nD τ), csem ck.2)

/-- The credit of one message. -/
def N : ℕ := (sndMsg 0).view.dmaCredit
theorem N_pos : 0 < N := View.dmaCredit_pos _ (by decide)
theorem credit_snd (e : Fin 12) : (sndMsg e).view.dmaCredit = N := rfl
theorem credit_rcv (e : Fin 12) : (rcvMsg e).view.dmaCredit = N := rfl

/-! ## The schedule -/

variable (I : Dev nD → Ins F)

/-- What a partner of `d` hands it with its signal: the partner's receive slots for the messages `d` sends it. -/
def barPay (d : Dev nD) (b : Bool) : sProp 𝕄 :=
  bigSep (Finset.univ.filter fun e => kind e = b) fun e => ownsAny (peer e d) (rcvSlot e)
/-- What the arrival of message `e` gives `c`: its receive slot holding its partner's message. -/
def recvPay (c : Dev nD) (e : Fin 12) : sProp 𝕄 := owns (c : Thread nD τ) (rcvSlot e) fullShare (P I e (peer e c))
/-- What the departure of message `e` gives `c` back: its send slot. -/
def sendPay (c : Dev nD) (e : Fin 12) : sProp 𝕄 := ownsAny c (sndSlot e)

omit [FloatOps F] in
instance barPay_storable (d : Dev nD) (b : Bool) : BI.Storable (upEmb : UEmb _ 𝕄) (barPay (F := F) d b) := by
  unfold barPay; infer_instance
instance recvPay_storable (c : Dev nD) (e : Fin 12) : BI.Storable (upEmb : UEmb _ 𝕄) (recvPay I c e) := by
  unfold recvPay; infer_instance
omit [FloatOps F] in
instance sendPay_storable (c : Dev nD) (e : Fin 12) : BI.Storable (upEmb : UEmb _ 𝕄) (sendPay (F := F) c e) := by
  unfold sendPay; infer_instance

/-- The duties of one semaphore's only round: the barrier has one for each partner, a message's semaphore one. -/
def dutiesOf (s : SemLoc sig) : Finset Bool :=
  match s with
  | .reg _ => Finset.univ
  | .dma q => if 6 ≤ q.val then {false} else ∅
def amountAt (s : SemLoc sig) : ℕ := match s with | .reg _ => 1 | .dma _ => N
set_option backward.proofsInPublic true in
/-- What paying a duty hands the cell's owner. -/
def payAt (c : Dev nD) (s : SemLoc sig) (b : Bool) : sProp 𝕄 :=
  match s with
  | .reg _ => barPay c b
  | .dma q =>
    if h : 18 ≤ q.val then recvPay I c ⟨q.val - 18, by have : q.val < 30 := q.isLt; omega⟩
    else if h' : 6 ≤ q.val then sendPay c ⟨q.val - 6, by omega⟩
    else iprop(emp)

/-- One round. -/
def rd : Rounds.Schedule (GSem nD τ sig) Bool 𝕄 where
  duties g r := if r = 0 ∧ g.1.2 = .tc then dutiesOf g.2 else ∅
  unitless _ := False
  amount g _ _ := amountAt g.2
  payload g _ d := payAt I g.1.1 g.2 d
  amount_pos g _ _ _ := by
    unfold amountAt
    split
    exacts [Nat.one_pos, N_pos]

instance rd_payload_storable (g : GSem nD τ sig) (r : ℕ) (d : Bool) : BI.Storable (upEmb : UEmb _ 𝕄) ((rd I).payload g r d) := by
  show BI.Storable upEmb (payAt I g.1.1 g.2 d)
  unfold payAt
  (repeat' split) <;> infer_instance

section Sched
variable (c : Dev nD) (e : Fin 12)

theorem duties_tc (s : SemLoc sig) : (rd I).duties ((c : Thread nD τ), s) 0 = dutiesOf s := by
  dsimp only [rd]; exact if_pos ⟨rfl, rfl⟩
theorem duties_bar : (rd I).duties (barCell c) 0 = Finset.univ := (duties_tc I c _).trans rfl
theorem duties_send : (rd I).duties (sendCell c e) 0 = {false} := by
  rw [duties_tc]; exact if_pos (Nat.le_add_right 6 e.val)
theorem duties_recv : (rd I).duties (recvCell c e) 0 = {false} := by
  rw [duties_tc]; exact if_pos (show 6 ≤ 18 + e.val by omega)
theorem duties_later (g : GSem nD τ sig) : ∀ r, 1 ≤ r → (rd I).duties g r = ∅ :=
  fun r hr => if_neg fun h => by omega

theorem amount_bar (d : Bool) : (rd I).amount (barCell c) 0 d = 1 := rfl
theorem amount_send (d : Bool) : (rd I).amount (sendCell c e) 0 d = N := rfl
theorem amount_recv (d : Bool) : (rd I).amount (recvCell c e) 0 d = N := rfl

theorem expect_bar : (rd I).expect (barCell c) 0 = 2 := by
  unfold Schedule.expect Schedule.amountOf
  rw [duties_bar, Finset.sum_congr rfl fun d _ => amount_bar I c d, Finset.sum_const, Finset.card_univ, Fintype.card_bool, smul_eq_mul]
theorem expect_send : (rd I).expect (sendCell c e) 0 = N := by
  unfold Schedule.expect Schedule.amountOf; rw [duties_send, Finset.sum_singleton, amount_send]
theorem expect_recv : (rd I).expect (recvCell c e) 0 = N := by
  unfold Schedule.expect Schedule.amountOf; rw [duties_recv, Finset.sum_singleton, amount_recv]

theorem payload_bar (d : Bool) : (rd I).payload (barCell c) 0 d = barPay c d := rfl
theorem payload_send (d : Bool) : (rd I).payload (sendCell c e) 0 d = sendPay c e := by
  show payAt I c (.dma (sendS e)) d = _
  dsimp only [payAt, sendS]
  rw [dif_neg (by omega), dif_pos (by omega)]
  exact congrArg _ (Fin.ext (by simp only; omega))
theorem payload_recv (d : Bool) : (rd I).payload (recvCell c e) 0 d = recvPay I c e := by
  show payAt I c (.dma (recvS e)) d = _
  dsimp only [payAt, recvS]
  rw [dif_pos (by omega)]
  exact congrArg _ (Fin.ext (by simp only; omega))

theorem rest_send : bigSep ((rd I).duties (sendCell c e) 0 \ ∅) (fun d => (rd I).payload (sendCell c e) 0 d) = sendPay c e := by
  rw [Finset.sdiff_empty, duties_send, bigSep_singleton, payload_send]
theorem rest_recv : bigSep ((rd I).duties (recvCell c e) 0 \ ∅) (fun d => (rd I).payload (recvCell c e) 0 d) = recvPay I c e := by
  rw [Finset.sdiff_empty, duties_recv, bigSep_singleton, payload_recv]
/-- The barrier's round hands over the receive slots of all twelve messages. -/
theorem rest_bar : bigSep ((rd I).duties (barCell c) 0 \ ∅) (fun d => (rd I).payload (barCell c) 0 d)
    = bigSep Finset.univ fun e => ownsAny (peer e c) (rcvSlot e) := by
  rw [Finset.sdiff_empty, duties_bar, bigSep_univ_eq_bigSepL [true, false] (by decide) (by decide), bigSepL_cons_cons, bigSepL_singleton,
    payload_bar, payload_bar, BI.bigSep_filter_split Finset.univ fun e : Fin 12 => kind e = true]
  unfold barPay
  simp only [Bool.not_eq_true]

end Sched

/-! ## What is owed, and the levels -/

/-- What `c` owes before its send `k`: the credits of the messages from `k` on. -/
def Orem (k : ℕ) (c : Dev nD) : CellTallies nD τ sig Unit :=
  ∑ e ∈ Finset.univ.filter (fun e : Fin 12 => k ≤ e.val), tallyAt (recvCell (peer e c) e) () N

theorem Orem_succ (e : Fin 12) (c : Dev nD) : Orem e.val c = Orem (e.val + 1) c + tallyAt (recvCell (peer e c) e) () N := by
  unfold Orem
  rw [show (Finset.univ.filter fun e' : Fin 12 => e.val ≤ e'.val) = insert e (Finset.univ.filter fun e' : Fin 12 => e.val + 1 ≤ e'.val) from by
      ext e'; simp only [Finset.mem_filter, Finset.mem_univ, true_and, Finset.mem_insert, Fin.ext_iff]; omega,
    Finset.sum_insert (by simp), add_comm]
theorem Orem_last (c : Dev nD) : Orem 12 c = 0 := by
  unfold Orem
  refine Finset.sum_eq_zero fun e he => ?_
  have := (Finset.mem_filter.mp he).2
  omega

/-- After the first signal, and at the start: the messages, and a unit to each partner's barrier. -/
def O₁ (c : Dev nD) : CellTallies nD τ sig Unit := Orem 0 c + tallyAt (barCell (p2 c)) () 1
def O₀ (c : Dev nD) : CellTallies nD τ sig Unit := O₁ c + tallyAt (barCell (p1 c)) () 1

def L (g : GSem nD τ sig) : Finset Unit := if g.1.2 = .tc then {()} else ∅
/-- The barrier below the receive cells, these in the order of the messages, all local cells at the bottom. -/
def lv (g : GSem nD τ sig) (_ : Unit) : ℕ := match g.2 with | .reg _ => 1 | .dma q => q.val - 16

theorem L_of_ne (g : GSem nD τ sig) (h : g.1.2 ≠ .tc) : L g = ∅ := if_neg h
theorem L_tc (c : Dev nD) (sm : SemLoc sig) : L ((c : Thread nD τ), sm) = {()} := if_pos rfl

theorem Orem_pos {k : ℕ} {c : Dev nD} {g : GSem nD τ sig} {u : Unit} (h : 0 < Orem k c g u) :
    ∃ e : Fin 12, k ≤ e.val ∧ g = recvCell (peer e c) e := by
  unfold Orem at h
  rw [Finset.sum_apply, Finsupp.finset_sum_apply] at h
  obtain ⟨e, he, hne⟩ := Finset.exists_ne_zero_of_sum_ne_zero (Nat.pos_iff_ne_zero.mp h)
  refine ⟨e, (Finset.mem_filter.mp he).2, ?_⟩
  rw [tallyAt_apply] at hne
  by_contra hn
  exact hne (if_neg fun h' => hn h'.1)

theorem O₀_pos {c : Dev nD} {g : GSem nD τ sig} {u : Unit} (h : 0 < O₀ c g u) :
    (∃ e : Fin 12, g = recvCell (peer e c) e) ∨ g = barCell (p2 c) ∨ g = barCell (p1 c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1), Nat.add_zero] at h
  obtain ⟨e, -, he⟩ := Orem_pos h
  exact hn.1 ⟨e, he⟩

omit [FloatOps F] in
/-- A wait on a cell at a level below every message still owed. -/
theorem mayWait_rem (c : Dev nD) (sm : SemLoc sig) (k : ℕ) (h : lv ((c : Thread nD τ), sm) () < 2 + k) :
    (levAts L lv : sProp 𝕄) ⊢ MayWait (c : Thread nD τ) sm () (Orem k c) :=
  MayOwe.of_cut (L := L) (lev := lv) (1 + k) (fun p hp => by rw [Finset.mem_singleton.mp hp, L_tc]; exact Finset.mem_singleton_self _)
    (fun g u hg => by obtain ⟨e, -, rfl⟩ := Orem_pos hg; exact Finset.mem_singleton_self _)
    (fun p hp => by rw [Finset.mem_singleton.mp hp]; exact Nat.lt_succ_iff.mp (by rw [show Nat.succ (1 + k) = 2 + k by omega]; exact h))
    (fun g u hg => by obtain ⟨e, he, rfl⟩ := Orem_pos hg; show 1 + k < 18 + e.val - 16; omega)

omit [FloatOps F] in
/-- A wait on a local cell, whatever is owed. -/
theorem mayWait_local (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨e, rfl⟩ | rfl | rfl <;> exact Finset.mem_singleton_self _)
      (fun p hp => by rw [Finset.mem_singleton.mp hp]; show q.val - 16 ≤ 0; omega)
      (fun g u hg => by
        rcases O₀_pos hg with ⟨e, rfl⟩ | rfl | rfl
        · show 0 < 18 + e.val - 16; omega
        · exact Nat.one_pos
        · exact Nat.one_pos)
  · rw [MayWait_zero]; iintro -; iempintro

/-- Device `c` with its sends from `k` on still owed. -/
def Owes (c : Dev nD) (k : ℕ) : sProp 𝕄 := iprop(∃ W, owes (c : Thread nD τ) (Orem k c) W)

/-! ## What every device knows -/

variable (K : Dev nD × Cell → ℕ)

/-- The invariants of all cells, that all are at their round, and the levels. -/
def ctx : sProp 𝕄 :=
  iprop((bigSep Finset.univ fun ck : Dev nD × Cell => cellInv ER (rd I) (K ck) (kcell ck))
    ∗ (bigSep Finset.univ fun ck : Dev nD × Cell => reached ER (kcell ck) 0) ∗ levAts L lv)

instance ctx_persistent : BI.Persistent (ctx I K) := by unfold ctx; infer_instance

theorem ctx_inv (ck : Dev nD × Cell) : ctx I K ⊢ cellInv ER (rd I) (K ck) (kcell ck) := by
  unfold ctx
  exact sep_elim_left.trans (bigSep_elim (Finset.mem_univ ck))
theorem ctx_reached (ck : Dev nD × Cell) : ctx I K ⊢ reached ER (kcell ck) 0 := by
  unfold ctx
  exact sep_elim_right.trans (sep_elim_left.trans (bigSep_elim (Finset.mem_univ ck)))
theorem ctx_lev : ctx I K ⊢ levAts L lv := by
  unfold ctx
  iintro ⟨-, -, H⟩
  iexact H

/-! ## One exchange -/

/-- What sending message `e` takes besides the message: the partner's receive slot, the two duties, the device's places at
    its two cells, and the credit its own receive cell will be paid. -/
def Toks (e : Fin 12) (c : Dev nD) : sProp 𝕄 :=
  iprop(ownsAny (peer e c) (rcvSlot e) ∗ dutyTok ER (sendCell c e) 0 false ∗ dutyTok ER (recvCell (peer e c) e) 0 false
    ∗ atPos ER (sendCell c e) 0 ∅ 0 ∗ atPos ER (recvCell c e) 0 ∅ 0 ∗ cred (tallyAt (recvCell c e) () N))
/-- Message `e` not yet written. -/
def Idle (e : Fin 12) (c : Dev nD) : sProp 𝕄 := iprop(ownsAny c (sndSlot e) ∗ Toks (F := F) e c)
/-- Message `e` written. -/
def Ready (e : Fin 12) (c : Dev nD) (p : Vec F S1x64x512 .bf16) : sProp 𝕄 :=
  iprop(owns (c : Thread nD τ) (sndSlot e) fullShare p ∗ Toks (F := F) e c)
/-- Message `e` under way, the partner's not yet taken. -/
def Sent (e : Fin 12) (c : Dev nD) : sProp 𝕄 :=
  iprop(cred (tallyAt (sendCell c e) () N) ∗ atPos ER (sendCell c e) 0 ∅ 0 ∗ atPos ER (recvCell c e) 0 ∅ 0 ∗ cred (tallyAt (recvCell c e) () N))
/-- The partner's message taken. -/
def Got (e : Fin 12) (c : Dev nD) : sProp 𝕄 :=
  iprop(cred (tallyAt (sendCell c e) () N) ∗ atPos ER (sendCell c e) 0 ∅ 0 ∗ semVal (recvCell c e) 0
    ∗ owns (c : Thread nD τ) (rcvSlot e) fullShare (P I e (peer e c)))
/-- The exchange over. -/
def Done (e : Fin 12) (c : Dev nD) : sProp 𝕄 :=
  iprop(semVal (sendCell c e) 0 ∗ semVal (recvCell c e) 0 ∗ ownsAny c (sndSlot e) ∗ ownsAny c (rcvSlot e))

omit [FloatOps F] in
/-- What lands in a receive slot is what the send slot held. -/
theorem landed_eq (e : Fin 12) (fs : (cc0_scratch2 : Ref sig .tc).ty.Contents (Elt F)) (p : Vec F S1x64x512 .bf16)
    (h : (sndSlot e).view.read (Elt F) fs = p) :
    shapeCast S1x64x512 ((sndMsg e).view.read (Elt F) fs) (by decide : S64x512.ShapeCasts S1x64x512) = p := by
  subst h
  funext j
  show (sndSlot e).view.read (Elt F) fs _ = _
  exact congrArg ((sndSlot e).view.read (Elt F) fs)
    (Shape.reshapeEquiv_eq_of_rowMajor _ (Shape.rowMajor_reshapeEquiv _ _).symm)

/-- The send slot comes back with the departure. -/
theorem left_send (e : Fin 12) (c : Dev nD) (fs : Buf (Elt F) ((sndMsg e).view.loc (c : Thread nD τ))) :
    ((sndMsg e).view.loc (c : Thread nD τ) ↦[(sndMsg e).view.set]{fullShare} fs : sProp 𝕄) ⊢ (rd I).payload (sendCell c e) 0 false := by
  rw [payload_send, show (sndMsg e).view.set = (sndSlot e).view.set from View.set_reshape _ _]
  exact ownsAny_of_pts c (sndSlot e) fs

/-- The partner's receive slot holds the message with the arrival. -/
theorem landed_recv (e : Fin 12) (c : Dev nD) (fs : Buf (Elt F) ((sndMsg e).view.loc (c : Thread nD τ)))
    (hfs : (sndSlot e).view.read (Elt F) fs = P I e c) (fd : Buf (Elt F) ((rcvMsg e).view.loc (peer e c : Thread nD τ))) :
    ((rcvMsg e).view.loc (peer e c : Thread nD τ) ↦[(rcvMsg e).view.set]{fullShare}
        ((rcvMsg e).view.write (Elt F) fd ((sndMsg e).view.read (Elt F) fs) Finset.univ) : sProp 𝕄)
      ⊢ (rd I).payload (recvCell (peer e c) e) 0 false := by
  rw [payload_recv]
  unfold recvPay
  rw [peer_peer]
  exact owns_of_squeeze_write (peer e c) (rcvSlot e) squeezes_S1x64x512_S64x512 (by decide) fd _ _ (landed_eq e fs _ hfs)

section Steps

variable {α : Type} {Q : α → sProp (MT nD τ sig Unit (Elt F) ℕ UU ℕ)}

/-- Sending message `e`: the slot holding it and what was collected for it go, one message less is owed. -/
theorem wp_xsend (e : Fin 12) (c : Dev nD) {n : Dev nD} (hn : n = peer e c)
    {src : Memref sig .tc .vmem S64x512 .bf16} (hs : src = sndMsg e)
    {dst : Memref sig .tc .vmem S64x512 .bf16} (hd : dst = rcvMsg e)
    {sS rS : DmaSem sig} (hsS : sS = sendS e) (hrS : rS = recvS e)
    {p : Vec F S1x64x512 .bf16} (hp : p = P I e c)
    {hsc : dst.view.ref.isScScratch = false} {hsrc : src.view.WordExact} {hdst : dst.view.WordExact}
    {hsem : DmaTarget.Typed (p := .tc) .vmem (.dma rS) (.remote (Dev.tc n : Thread nD τ) dst (.dma sS) hsc)}
    {k : PUnit → Prog (TpuEff nD τ sig (Elt F) Λ₀ .tc) α} :
    iprop(ctx I K ∗ Ready e c p ∗ Owes c e.val)
      ⊢ iprop((iprop(Sent e c ∗ Owes c (e.val + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma rS) hsrc hdst hsem) k) Q) := by
  subst hn hs hd hsS hrS hp
  unfold Ready Toks Owes Sent owns
  iintro ⟨#Hctx, ⟨⟨%fs, %hfs, Hs⟩, Hd, HtS, HtR, HaS, HaR, HcR⟩, ⟨%W, HO⟩⟩ Hk
  ihave Hd' := (pts_of_ownsAny (peer e c) (rcvSlot e)) $$ Hd
  icases Hd' with ⟨%fd, Hd⟩
  iapply (Rounds.wp_send_pointsTo 𝒱₀ ER (rd I) (c : Thread nD τ) none (κ₁ := K (c, .inr (.inl e))) (κ₂ := K (peer e c, .inr (.inr e)))
    (c' := (Dev.tc (peer e c) : Thread nD τ)) (src := sndMsg e) (dst := rcvMsg e) (fs := fs) (q := fullShare)
    (r₁ := 0) (r₂ := 0) (d₁ := false) (d₂ := false) (fd := fd)
    (by rw [duties_send]; exact Finset.mem_singleton_self _) (by rw [duties_recv]; exact Finset.mem_singleton_self _)
    () () N rfl (amount_send I c e false) (amount_recv I (peer e c) e false) (Orem (e.val + 1) c) (Orem_succ e c) (W := W)
    (left_send I e c fs) (landed_recv I e c fs hfs fd)) $$ [Hs Hd HO HtS HtR]
  · isplitr; · iapply (ctx_inv I K (c, .inr (.inl e))); iexact Hctx
    isplitr; · iapply (ctx_inv I K (peer e c, .inr (.inr e))); iexact Hctx
    isplitl [Hs]
    · rw [show (sndMsg e).view.set = (sndSlot e).view.set from View.set_reshape _ _]; iexact Hs
    isplitl [Hd]
    · rw [show (rcvMsg e).view.set = (rcvSlot e).view.set from View.set_reshape _ _]; iexact Hd
    isplitl [HO]; · iexact HO
    isplitl [HtS]; · iexact HtS
    isplitr; · iapply (ctx_reached I K (c, .inr (.inl e))); iexact Hctx
    isplitl [HtR]; · iexact HtR
    iapply (ctx_reached I K (peer e c, .inr (.inr e))); iexact Hctx
  iintro ⟨HcS, HO⟩
  iapply Hk
  isplitr [HO]
  · isplitl [HcS]; · iexact HcS
    isplitl [HaS]; · iexact HaS
    isplitl [HaR] <;> iassumption
  iexists W; iexact HO

/-- Waiting for the partner's message `e`, with only later sends owed: the receive slot holds it. -/
theorem wp_xrecv (e : Fin 12) (c : Dev nD) (n : ℕ) (hlt : e.val < n)
    {src : Memref sig .tc .vmem S64x512 .bf16} {dst : Memref sig .tc .vmem S64x512 .bf16} (hd : dst = rcvMsg e)
    {rS : DmaSem sig} (hrS : rS = recvS e) {hsrc : src.view.WordExact} {hdst : dst.view.WordExact}
    {k : PUnit → Prog (TpuEff nD τ sig (Elt F) Λ₀ .tc) α} :
    iprop(ctx I K ∗ Sent e c ∗ Owes c n)
      ⊢ iprop((iprop(Got I e c ∗ Owes c n) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 rS src dst hsrc hdst) k) Q) := by
  subst hd hrS
  unfold Sent Got Owes
  iintro ⟨#Hctx, ⟨HcS, HaS, HaR, HcR⟩, ⟨%W, HO⟩⟩ Hk
  iapply (Rounds.wp_wait_rest_token 𝒱₀ ER (rd I) (c : Thread nD τ) none (κ := K (c, .inr (.inr e)))
    (wpE_waitDma2_eq 𝒱₀ (c : Thread nD τ) none Set.univ) (Set.mem_univ _) () (O := Orem n c) (W := W) (R := 0) (m := 0) (T := ∅)
    (by rw [Nat.zero_add, expect_recv]; exact credit_rcv e)) $$ [HcR HO HaR]
  · isplitr; · iapply (ctx_inv I K (c, .inr (.inr e))); iexact Hctx
    isplitl [HcR]; · iexact HcR
    isplitl [HO]; · iexact HO
    isplitr
    · iapply (mayWait_rem c (.dma (recvS e)) n (by show 18 + e.val - 16 < 2 + n; omega))
      iapply (ctx_lev I K); iexact Hctx
    iexact HaR
  iintro ⟨HO, HaR, -, Hpay⟩
  ihave Hp := (Entails.of_eq (rest_recv I c e)) $$ Hpay
  imod (Rounds.cell_close ER (rd I) (Set.mem_univ (K (c, .inr (.inr e)))) (fun h => h) (R := 0 + 1) (duties_later I (recvCell c e))) $$ [HaR] with HzR
  · isplitr; · iapply (ctx_inv I K (c, .inr (.inr e))); iexact Hctx
    iexact HaR
  iapply Hk
  isplitr [HO]
  · isplitl [HcS]; · iexact HcS
    isplitl [HaS]; · iexact HaS
    isplitl [HzR]; · iexact HzR
    unfold recvPay; iexact Hp
  iexists _; iexact HO

/-- Waiting, at the end, for the own message `e` to have left. -/
theorem wp_xdone (e : Fin 12) (c : Dev nD)
    {src : Memref sig .tc .vmem S64x512 .bf16} {dst : Memref sig .tc .vmem S64x512 .bf16} (hd : dst = sndMsg e)
    {sS : DmaSem sig} (hsS : sS = sendS e) {hsrc : src.view.WordExact} {hdst : dst.view.WordExact}
    {k : PUnit → Prog (TpuEff nD τ sig (Elt F) Λ₀ .tc) α} :
    iprop(ctx I K ∗ Got I e c ∗ Owes c 12)
      ⊢ iprop((iprop(Done e c ∗ Owes c 12) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hd hsS
  unfold Got Done Owes
  iintro ⟨#Hctx, ⟨HcS, HaS, HzR, Hr⟩, ⟨%W, HO⟩⟩ Hk
  iapply (Rounds.wp_wait_rest_token 𝒱₀ ER (rd I) (c : Thread nD τ) none (κ := K (c, .inr (.inl e)))
    (wpE_waitDma2_eq 𝒱₀ (c : Thread nD τ) none Set.univ) (Set.mem_univ _) () (O := Orem 12 c) (W := W) (R := 0) (m := 0) (T := ∅)
    (by rw [Nat.zero_add, expect_send]; exact credit_snd e)) $$ [HcS HO HaS]
  · isplitr; · iapply (ctx_inv I K (c, .inr (.inl e))); iexact Hctx
    isplitl [HcS]; · iexact HcS
    isplitl [HO]; · iexact HO
    isplitr
    · iapply (mayWait_rem c (.dma (sendS e)) 12 (by show 6 + e.val - 16 < 2 + 12; omega))
      iapply (ctx_lev I K); iexact Hctx
    iexact HaS
  iintro ⟨HO, HaS, -, Hpay⟩
  ihave Hp := (Entails.of_eq (rest_send I c e)) $$ Hpay
  imod (Rounds.cell_close ER (rd I) (Set.mem_univ (K (c, .inr (.inl e)))) (fun h => h) (R := 0 + 1) (duties_later I (sendCell c e))) $$ [HaS] with HzS
  · isplitr; · iapply (ctx_inv I K (c, .inr (.inl e))); iexact Hctx
    iexact HaS
  iapply Hk
  isplitr [HO]
  · isplitl [HzS]; · iexact HzS
    isplitl [HzR]; · iexact HzR
    isplitl [Hp]; · unfold sendPay; iexact Hp
    iexists _; iexact Hr
  iexists _; iexact HO

/-- The signal to the first partner: the receive slots its messages go to are handed over. -/
theorem wp_signal₁ (c : Dev nD) {n : Dev nD} (hn : n = p1 c) {s : Sem sig} (hs : s = barS) {w : ℕ} (hw : w = 1) {W : Waits sig Unit}
    {k : PUnit → Prog (TpuEff nD τ sig (Elt F) Λ₀ .tc) α} :
    iprop(ctx I K ∗ owes (c : Thread nD τ) (O₀ c) W ∗ dutyTok ER (barCell (p1 c)) 0 false ∗ barPay (F := F) (p1 c) false)
      ⊢ iprop((owes (c : Thread nD τ) (O₁ c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) s w) k) Q) := by
  subst hn hs hw
  iintro ⟨#Hctx, HO, Ht, Hp⟩ Hk
  iapply (Rounds.wp_signal 𝒱₀ ER (rd I) (c : Thread nD τ) none (dst := (p1 c : Thread nD τ)) (κ := K (p1 c, .inl ()))
      (d := false) (by rw [duties_bar]; exact Finset.mem_univ _) (amount_bar I (p1 c) false) () (O₁ c) rfl) $$ [HO Ht Hp]
  · isplitr; · iapply (ctx_inv I K (p1 c, .inl ())); iexact Hctx
    isplitl [HO]; · iexact HO
    isplitl [Ht]; · iexact Ht
    isplitl [Hp]; · rw [payload_bar]; iexact Hp
    iapply (ctx_reached I K (p1 c, .inl ())); iexact Hctx
  iexact Hk

/-- The signal to the second partner. -/
theorem wp_signal₂ (c : Dev nD) {n : Dev nD} (hn : n = p2 c) {s : Sem sig} (hs : s = barS) {w : ℕ} (hw : w = 1) {W : Waits sig Unit}
    {k : PUnit → Prog (TpuEff nD τ sig (Elt F) Λ₀ .tc) α} :
    iprop(ctx I K ∗ owes (c : Thread nD τ) (O₁ c) W ∗ dutyTok ER (barCell (p2 c)) 0 true ∗ barPay (F := F) (p2 c) true)
      ⊢ iprop((owes (c : Thread nD τ) (Orem 0 c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) s w) k) Q) := by
  subst hn hs hw
  iintro ⟨#Hctx, HO, Ht, Hp⟩ Hk
  iapply (Rounds.wp_signal 𝒱₀ ER (rd I) (c : Thread nD τ) none (dst := (p2 c : Thread nD τ)) (κ := K (p2 c, .inl ()))
      (d := true) (by rw [duties_bar]; exact Finset.mem_univ _) (amount_bar I (p2 c) true) () (Orem 0 c) rfl) $$ [HO Ht Hp]
  · isplitr; · iapply (ctx_inv I K (p2 c, .inl ())); iexact Hctx
    isplitl [HO]; · iexact HO
    isplitl [Ht]; · iexact Ht
    isplitl [Hp]; · rw [payload_bar]; iexact Hp
    iapply (ctx_reached I K (p2 c, .inl ())); iexact Hctx
  iexact Hk

/-- The wait for both partners' signals: all receive slots the device sends to are its to fill, and its barrier is closed. -/
theorem wp_barrier (c : Dev nD) {s : Sem sig} (hs : s = barS) {w : ℕ} (hw : w = 2)
    {k : PUnit → Prog (TpuEff nD τ sig (Elt F) Λ₀ .tc) α} :
    iprop(ctx I K ∗ cred (tallyAt (barCell c) () 2) ∗ atPos ER (barCell c) 0 ∅ 0 ∗ Owes c 0)
      ⊢ iprop((iprop((bigSep Finset.univ fun e : Fin 12 => ownsAny (peer e c) (rcvSlot e)) ∗ semVal (barCell c) 0 ∗ Owes c 0)
              -∗ wp frame (wpE (defs₀ (F := F)) 𝒱₀ (c : Thread nD τ) none) Set.univ (k ⟨⟩) Q)
          -∗ wp frame (wpE (defs₀ (F := F)) 𝒱₀ (c : Thread nD τ) none) Set.univ (.op (.semWait s w) k) Q) := by
  subst hs hw
  unfold Owes
  iintro ⟨#Hctx, Hc, Ha, ⟨%W, HO⟩⟩ Hk
  iapply (Rounds.wp_wait_rest_token 𝒱₀ ER (rd I) (c : Thread nD τ) none (κ := K (c, .inl ()))
    (wpE_semWait_eq 𝒱₀ (c : Thread nD τ) none Set.univ) (Set.mem_univ _) () (O := Orem 0 c) (W := W) (R := 0) (m := 0) (T := ∅)
    (by rw [expect_bar])) $$ [Hc HO Ha]
  · isplitr; · iapply (ctx_inv I K (c, .inl ())); iexact Hctx
    isplitl [Hc]; · iexact Hc
    isplitl [HO]; · iexact HO
    isplitr
    · iapply (mayWait_rem c (.reg barS) 0 (by show 1 < 2 + 0; omega))
      iapply (ctx_lev I K); iexact Hctx
    iexact Ha
  iintro ⟨HO, Ha, -, Hpay⟩
  ihave Hp := (Entails.of_eq (rest_bar I c)) $$ Hpay
  imod (Rounds.cell_close ER (rd I) (Set.mem_univ (K (c, .inl ()))) (fun h => h) (R := 0 + 1) (duties_later I (barCell c))) $$ [Ha] with Hz
  · isplitr; · iapply (ctx_inv I K (c, .inl ())); iexact Hctx
    iexact Ha
  iapply Hk
  isplitl [Hp]; · iexact Hp
  isplitl [Hz]; · iexact Hz
  iexists _; iexact HO

end Steps

end Cert.KernelIdealProof

end
-- ==== Proof.KernelIdealSteps.lean ====
/-
# The kernel's loads, stores and local copies

Each step of the body on the resource it touches: the loads of the activations, of the weights' slots and of a receive slot,
the write of a message into its send slot, the write of the result in two halves, and the local copies of the weights.
-/
module

public import proofs.«01_k».proof.Proof.KernelIdealExchange

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × Cell → ℕ)

/-! ## The weights' slots and their semaphores -/

abbrev wSlot0 : Memref sig .tc .vmem S1x1024x2048 .f32 :=
  (Memref.whole cc0_scratch0).slice (Rect.unit (s := S2x1024x2048) ![0, 0, 0] S1x1024x2048.size inb_S2x1024x2048_S1x1024x2048_0_0_0) (fun _ => rfl)
abbrev wSlot1 : Memref sig .tc .vmem S1x1024x2048 .f32 :=
  (Memref.whole cc0_scratch0).slice (Rect.unit (s := S2x1024x2048) ![1, 0, 0] S1x1024x2048.size inb_S2x1024x2048_S1x1024x2048_1_0_0) (fun _ => rfl)
abbrev uSlot0 : Memref sig .tc .vmem S1x2048x1024 .f32 :=
  (Memref.whole cc0_scratch1).slice (Rect.unit (s := S2x2048x1024) ![0, 0, 0] S1x2048x1024.size inb_S2x2048x1024_S1x2048x1024_0_0_0) (fun _ => rfl)
abbrev uSlot1 : Memref sig .tc .vmem S1x2048x1024 .f32 :=
  (Memref.whole cc0_scratch1).slice (Rect.unit (s := S2x2048x1024) ![1, 0, 0] S1x2048x1024.size inb_S2x2048x1024_S1x2048x1024_1_0_0) (fun _ => rfl)

abbrev wSem0 : DmaSem sig := ((cc0_scratch4.slice (Rect.unit (s := S2) ![0] S1.size inb_S2_S1_0)).squeeze S_ squeezes_S1_S_).sem
abbrev wSem1 : DmaSem sig := ((cc0_scratch4.slice (Rect.unit (s := S2) ![1] S1.size inb_S2_S1_1)).squeeze S_ squeezes_S1_S_).sem
abbrev uSem0 : DmaSem sig := ((cc0_scratch5.slice (Rect.unit (s := S2) ![0] S1.size inb_S2_S1_0)).squeeze S_ squeezes_S1_S_).sem
abbrev uSem1 : DmaSem sig := ((cc0_scratch5.slice (Rect.unit (s := S2) ![1] S1.size inb_S2_S1_1)).squeeze S_ squeezes_S1_S_).sem

/-- The copy of a first weight block `w` from `M` into the slot `b` on its way. -/
abbrev FetchW (c : Dev nD) (q : DmaSem sig) (b : Memref sig .tc .vmem S1x1024x2048 .f32)
    (M : Memref sig .tc .hbm S1024x2048 .f32) (w : Vec F S1024x2048 .f32) : sProp 𝕄 :=
  Fetching c q M b squeezes_S1x1024x2048_S1024x2048 castW w
/-- The copy of a second weight block `u` from `M` into the slot `b` on its way. -/
abbrev FetchU (c : Dev nD) (q : DmaSem sig) (b : Memref sig .tc .vmem S1x2048x1024 .f32)
    (M : Memref sig .tc .hbm S2048x1024 .f32) (u : Vec F S2048x1024 .f32) : sProp 𝕄 :=
  Fetching c q M b squeezes_S1x2048x1024_S2048x1024 castU u

/-! ## Loads and stores of messages -/

section Slots

variable {α : Type} {Q : α → sProp (MT nD τ sig Unit (Elt F) ℕ UU ℕ)}

/-- Loading a receive slot whose message was taken. -/
theorem wp_loadRecv (e : Fin 12) (c : Dev nD) {off : Fin 3 → ℕ} (ho : off = ![e.val, 0, 0])
    {inb : ∀ a, off a + S1x64x512.size a ≤ S12x64x512.size a}
    {hl : (Memref.whole cc0_scratch3 : Memref sig .tc .vmem S12x64x512 .bf16).view.LoadsAt (Rect.unit (s := S12x64x512) off S1x64x512.size inb).toLoadRect}
    {w : Vec F S1x64x512 .bf16} (hw : w = P I e (peer e c))
    {k : (S1x64x512.Idx → Elt F .bf16) → Prog (TpuEff nD τ sig (Elt F) Λ₀ .tc) α} :
    Got I e c
      ⊢ iprop((Got I e c -∗ wp frame (wpE (defs₀ (F := F)) 𝒱₀ (c : Thread nD τ) none) Set.univ (k w) Q)
          -∗ wp frame (wpE (defs₀ (F := F)) 𝒱₀ (c : Thread nD τ) none) Set.univ
              (.op (.load (Memref.whole cc0_scratch3) (Rect.unit (s := S12x64x512) off S1x64x512.size inb).toLoadRect hl) k) Q) := by
  subst ho hw
  unfold Got
  iintro ⟨H1, H2, H3, H⟩ Hk
  iapply (wp_load_owns c (b := Memref.whole cc0_scratch3) (r := slotRect e) (hl := hl) (fun _ => rfl) (P I e (peer e c))) $$ H
  iintro H
  iapply Hk
  isplitl [H1]; · iexact H1
  isplitl [H2]; · iexact H2
  isplitl [H3] <;> iassumption

/-- A load of a send slot whose result nothing uses. -/
theorem wp_peek (e : Fin 12) (c : Dev nD) {off : Fin 3 → ℕ} (ho : off = ![e.val, 0, 0])
    {inb : ∀ a, off a + S1x64x512.size a ≤ S12x64x512.size a}
    {hl : (Memref.whole cc0_scratch2 : Memref sig .tc .vmem S12x64x512 .bf16).view.LoadsAt (Rect.unit (s := S12x64x512) off S1x64x512.size inb).toLoadRect}
    {k : (S1x64x512.Idx → Elt F .bf16) → Prog (TpuEff nD τ sig (Elt F) Λ₀ .tc) α} :
    (Idle e c : sProp 𝕄)
      ⊢ iprop((∀ v, Idle e c -∗ wp frame (wpE (defs₀ (F := F)) 𝒱₀ (c : Thread nD τ) none) Set.univ (k v) Q)
          -∗ wp frame (wpE (defs₀ (F := F)) 𝒱₀ (c : Thread nD τ) none) Set.univ
              (.op (.load (Memref.whole cc0_scratch2) (Rect.unit (s := S12x64x512) off S1x64x512.size inb).toLoadRect hl) k) Q) := by
  subst ho
  unfold Idle ownsAny
  iintro ⟨⟨%p, H⟩, HT⟩ Hk
  iapply (wp_load_owns c (b := Memref.whole cc0_scratch2) (r := slotRect e) (hl := hl) (fun _ => rfl) p) $$ H
  iintro H
  iapply Hk
  isplitl [H]
  · iexists p; iexact H
  iexact HT

/-- Writing a message into its send slot. -/
theorem wp_write (e : Fin 12) (c : Dev nD) {off : Fin 3 → ℕ} (ho : off = ![e.val, 0, 0])
    {inb : ∀ a, off a + S1x64x512.size a ≤ S12x64x512.size a} {w : S1x64x512.Idx → Elt F .bf16} (hw : w = P I e c)
    {hx : ((Memref.whole cc0_scratch2 : Memref sig .tc .vmem S12x64x512 .bf16).access (Rect.unit (s := S12x64x512) off S1x64x512.size inb)).Stores Finset.univ}
    {hm : (Finset.univ : Finset S1x64x512.Idx) = Finset.univ ∨ ∀ a, (Rect.unit (s := S12x64x512) off S1x64x512.size inb).stride a = 1}
    {k : PUnit → Prog (TpuEff nD τ sig (Elt F) Λ₀ .tc) α} :
    (Idle e c : sProp 𝕄)
      ⊢ iprop((Ready e c (P I e c) -∗ wp frame (wpE (defs₀ (F := F)) 𝒱₀ (c : Thread nD τ) none) Set.univ (k ⟨⟩) Q)
          -∗ wp frame (wpE (defs₀ (F := F)) 𝒱₀ (c : Thread nD τ) none) Set.univ
              (.op (.store (Memref.whole cc0_scratch2) (Rect.unit (s := S12x64x512) off S1x64x512.size inb) w Finset.univ hx hm) k) Q) := by
  subst ho hw
  unfold Idle Ready
  have h := wp_store_owns (F := F) c (b := Memref.whole cc0_scratch2) (r := slotRect e) (hx := hx) (hm := hm) (w := P I e c) (k := k) (Q := Q) (fun _ => rfl)
  refine (sep_mono h .rfl).trans ?_
  iintro ⟨H, HT⟩ Hk
  iapply H
  iintro H
  iapply Hk
  isplitl [H] <;> iassumption

/-! ## Loads of the activations, and the stores of the result -/

abbrev xM : Memref sig .tc .vmem S64x1024 .f32 := Memref.whole cc0_stg0_0
abbrev oM : Memref sig .tc .vmem S64x1024 .f32 := Memref.whole cc0_stg1_0

omit [FloatOps F] in
theorem hz : (![0, 0] : Fin 2 → Nat) = fun _ => 0 := funext fun a => by fin_cases a <;> rfl

/-- The activations' staging buffer holding them. -/
def Xs (c : Dev nD) : sProp 𝕄 := (c : Thread nD τ).loc cc0_stg0_0 ↦{fullShare} (I c).x

/-- Loading the activations. -/
theorem wp_loadX (c : Dev nD) {inb : ∀ a, (![0, 0] : Fin 2 → ℕ) a + S64x1024.size a ≤ S64x1024.size a}
    {hl : (xM.view).LoadsAt (Rect.unit (s := S64x1024) ![0, 0] S64x1024.size inb).toLoadRect}
    {k : (S64x1024.Idx → Elt F .f32) → Prog (TpuEff nD τ sig (Elt F) Λ₀ .tc) α} :
    Xs I c
      ⊢ iprop((Xs I c -∗ wp frame (wpE (defs₀ (F := F)) 𝒱₀ (c : Thread nD τ) none) Set.univ (k (I c).x) Q)
          -∗ wp frame (wpE (defs₀ (F := F)) 𝒱₀ (c : Thread nD τ) none) Set.univ
              (.op (.load xM (Rect.unit (s := S64x1024) ![0, 0] S64x1024.size inb).toLoadRect hl) k) Q) := by
  unfold Xs
  have h := wp_load (defs := defs₀ (F := F)) (Γ := .empty) 𝒱₀ (c : Thread nD τ) none Set.univ (m := xM) (hl := hl) (k := k) (Q := Q)
    (S := Finset.univ) (q := fullShare) (f := (I c).x) (Finset.subset_univ _)
  have e : View.readAt (Elt F) xM.view (Rect.unit (s := S64x1024) ![0, 0] S64x1024.size inb).toLoadRect (I c).x = (I c).x :=
    Memref.readAt_unit_zero (Elt F) cc0_stg0_0 hz inb (I c).x
  rw [e] at h
  exact h

/-- The result of device `c`, its two halves of columns side by side. -/
def outAt (c : Dev nD) : Vec F S64x1024 .f32 :=
  updateSlice (updateSlice (I c).x (o0 I c) ![0, 0] ⟨rfl, inb_S64x1024_S64x512_0_0⟩) (o1 I c) ![0, 512] ⟨rfl, inb_S64x1024_S64x512_0_512⟩

omit [FloatOps F] in
/-- The two halves written over any contents are the same. -/
theorem halves_eq (f g : Vec F S64x1024 .f32) (a b : Vec F S64x512 .f32) :
    updateSlice (s := S64x1024) (u := S64x512) (updateSlice (s := S64x1024) (u := S64x512) f a ![0, 0] ⟨rfl, inb_S64x1024_S64x512_0_0⟩) b ![0, 512] ⟨rfl, inb_S64x1024_S64x512_0_512⟩
      = updateSlice (s := S64x1024) (u := S64x512) (updateSlice (s := S64x1024) (u := S64x512) g a ![0, 0] ⟨rfl, inb_S64x1024_S64x512_0_0⟩) b ![0, 512] ⟨rfl, inb_S64x1024_S64x512_0_512⟩ := by
  funext j
  unfold updateSlice
  split
  · rfl
  · next h1 =>
    split
    · rfl
    · next h0 =>
      exfalso
      have hj0 : (j 0).val < 64 := (j 0).isLt
      have hj1 : (j 1).val < 1024 := (j 1).isLt
      rcases Nat.lt_or_ge (j 1).val 512 with hlt | hge
      · refine h0 fun a => ?_
        fin_cases a
        · exact ⟨Nat.zero_le _, hj0⟩
        · exact ⟨Nat.zero_le _, hlt⟩
      · refine h1 fun a => ?_
        fin_cases a
        · exact ⟨Nat.zero_le _, hj0⟩
        · exact ⟨hge, hj1⟩

/-- A load of the result's buffer whose value nothing uses. -/
theorem wp_peekOut (c : Dev nD) (f : Vec F S64x1024 .f32) {r : Rect S64x1024}
    {hl : (oM.view).LoadsAt r.toLoadRect} {k : (r.shape.Idx → Elt F .f32) → Prog (TpuEff nD τ sig (Elt F) Λ₀ .tc) α} :
    ((c : Thread nD τ).loc cc0_stg1_0 ↦{fullShare} f : sProp 𝕄)
      ⊢ iprop((∀ v, ((c : Thread nD τ).loc cc0_stg1_0 ↦{fullShare} f) -∗ wp frame (wpE (defs₀ (F := F)) 𝒱₀ (c : Thread nD τ) none) Set.univ (k v) Q)
          -∗ wp frame (wpE (defs₀ (F := F)) 𝒱₀ (c : Thread nD τ) none) Set.univ (.op (.load oM r.toLoadRect hl) k) Q) := by
  iintro H Hk
  iapply (wp_load 𝒱₀ (c : Thread nD τ) none Set.univ (m := oM) (hl := hl) (S := Finset.univ) (Finset.subset_univ _)) $$ H
  iintro H
  iapply Hk
  iexact H

/-- A store of a half of the result. -/
theorem wp_storeOut (c : Dev nD) (f : Vec F S64x1024 .f32) {off : Fin 2 → ℕ} {inb : ∀ a, off a + S64x512.size a ≤ S64x1024.size a}
    {w : S64x512.Idx → Elt F .f32} {hx : (oM.access (Rect.unit (s := S64x1024) off S64x512.size inb)).Stores Finset.univ}
    {hm : (Finset.univ : Finset S64x512.Idx) = Finset.univ ∨ ∀ a, (Rect.unit (s := S64x1024) off S64x512.size inb).stride a = 1}
    {k : PUnit → Prog (TpuEff nD τ sig (Elt F) Λ₀ .tc) α} :
    ((c : Thread nD τ).loc cc0_stg1_0 ↦{fullShare} f : sProp 𝕄)
      ⊢ iprop((((c : Thread nD τ).loc cc0_stg1_0 ↦{fullShare} (updateSlice (s := S64x1024) (u := S64x512) f w off ⟨rfl, inb⟩ : Vec F S64x1024 .f32))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.store oM (Rect.unit (s := S64x1024) off S64x512.size inb) w Finset.univ hx hm) k) Q) := by
  have h := wp_store (defs := defs₀ (F := F)) (Γ := .empty) 𝒱₀ (c : Thread nD τ) none Set.univ (m := oM) (r := Rect.unit (s := S64x1024) off S64x512.size inb)
    (w := w) (Mk := Finset.univ) (hx := hx) (hm := hm) (k := k) (Q := Q) (S := Finset.univ) (f := f) (Finset.subset_univ _)
  have e := View.write_whole_slice_unit (Val := Elt F) cc0_stg1_0 off S64x512.size inb f w
  have e' : (oM.access (Rect.unit (s := S64x1024) off S64x512.size inb)).write (Elt F) f w Finset.univ
      = (updateSlice (s := S64x1024) (u := S64x512) f w off ⟨rfl, inb⟩ : Vec F S64x1024 .f32) := e
  rw [e'] at h
  exact h

/-! ## The local copies -/

/-- The end of a local copy, the exchange's first `k` messages sent. -/
theorem wp_fetchDone {s s' : Shape} {e : EltTy} (k : ℕ) (c : Dev nD) {q : DmaSem sig} (hq : q.val < 16 + 2 + k)
    {A : Memref sig .tc .hbm s' e} {b : Memref sig .tc .vmem s e} {h : s.Squeezes s'}
    (hc : s'.ShapeCasts s) {hsrc : A.view.WordExact} {hdst : (b.squeeze s' h).view.WordExact}
    {kk : PUnit → Prog (TpuEff nD τ sig (Elt F) Λ₀ .tc) α} (v : s'.Idx → Elt F e) :
    iprop(ctx I K ∗ Fetching c q A b h hc v ∗ Owes c k : sProp 𝕄)
      ⊢ iprop((iprop((owns (c : Thread nD τ) b fullShare (shapeCast s v hc) ∗ owns (c : Thread nD τ) A fullShare v ∗ semVal ((c : Thread nD τ), .dma q) 0)
              ∗ Owes c k)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 q A (b.squeeze s' h) hsrc hdst) kk) Q) := by
  unfold Owes
  iintro ⟨#HC, HF, %W, HO⟩ Hk
  ihave Hlev := (ctx_lev I K) $$ HC
  ihave HM := (mayWait_rem c (.dma q) k (by simp only [lv]; omega)) $$ Hlev
  iapply (wp_fetched c hc v (Orem k c) W) $$ [HF HO HM]
  · isplitl [HF]; · iexact HF
    isplitl [HO] <;> iassumption
  iintro ⟨H, HO⟩
  iapply Hk
  isplitl [H]; · iexact H
  iexists _; iexact HO

/-- The end of a weight block's copy and the load of its slot. -/
theorem wp_take {s' bs : Shape} {e : EltTy} (k : ℕ) (c : Dev nD) {q : DmaSem sig} (hq : q.val < 16 + 2 + k)
    {A : Memref sig .tc .hbm s' e} {m : Memref sig .tc .vmem bs e} {r : Rect bs} (hr : ∀ a, r.stride a = 1) {h : r.shape.Squeezes s'}
    (hc : s'.ShapeCasts r.shape) {hsrc : A.view.WordExact} {hdst : ((m.slice r hr).squeeze s' h).view.WordExact}
    {hl : m.view.LoadsAt r.toLoadRect} (v : s'.Idx → Elt F e)
    {kk : (r.toLoadRect.shape.Idx → Elt F e) → Prog (TpuEff nD τ sig (Elt F) Λ₀ .tc) α} {w : r.shape.Idx → Elt F e} (hw : w = shapeCast r.shape v hc) :
    iprop(ctx I K ∗ Fetching c q A (m.slice r hr) h hc v ∗ Owes c k : sProp 𝕄)
      ⊢ iprop((iprop(ownsAny c (m.slice r hr) ∗ owns (c : Thread nD τ) A fullShare v ∗ semVal ((c : Thread nD τ), .dma q) 0 ∗ Owes c k)
            -∗ wp frame (wpE (defs₀ (F := F)) 𝒱₀ (c : Thread nD τ) none) Set.univ (kk w) Q)
          -∗ wp frame (wpE (defs₀ (F := F)) 𝒱₀ (c : Thread nD τ) none) Set.univ
              (.op (.waitDma2 q A ((m.slice r hr).squeeze s' h) hsrc hdst) fun _ => .op (.load m r.toLoadRect hl) kk) Q) := by
  subst hw
  iintro H Hk
  iapply (wp_fetchDone I K k c hq hc v) $$ H
  iintro ⟨⟨Hb, HA, Hs⟩, HO⟩
  iapply (wp_load_owns c hr (shapeCast r.shape v hc)) $$ Hb
  iintro Hb
  iapply Hk
  isplitl [Hb]
  · unfold ownsAny; iexists _; iexact Hb
  isplitl [HA]; · iexact HA
  isplitl [Hs] <;> iassumption

/-- The end of a first weight block's copy and the load of its slot. -/
theorem wp_takeW (k : ℕ) (c : Dev nD) {q : DmaSem sig} (hq : q.val < 16 + 2 + k) {off : Fin 3 → ℕ}
    {inb : ∀ a, off a + S1x1024x2048.size a ≤ S2x1024x2048.size a} {A : Memref sig .tc .hbm S1024x2048 .f32} {hsrc : A.view.WordExact}
    {hdst : (((Memref.whole cc0_scratch0 : Memref sig .tc .vmem S2x1024x2048 .f32).slice (Rect.unit (s := S2x1024x2048) off S1x1024x2048.size inb) (fun _ => rfl)).squeeze S1024x2048 squeezes_S1x1024x2048_S1024x2048).view.WordExact}
    {hl : (Memref.whole cc0_scratch0 : Memref sig .tc .vmem S2x1024x2048 .f32).view.LoadsAt (Rect.unit (s := S2x1024x2048) off S1x1024x2048.size inb).toLoadRect} (v : Vec F S1024x2048 .f32)
    {kk : (S1x1024x2048.Idx → Elt F .f32) → Prog (TpuEff nD τ sig (Elt F) Λ₀ .tc) α} :
    iprop(ctx I K ∗ FetchW c q ((Memref.whole cc0_scratch0).slice (Rect.unit (s := S2x1024x2048) off S1x1024x2048.size inb) (fun _ => rfl)) A v ∗ Owes c k : sProp 𝕄)
      ⊢ iprop((iprop(ownsAny c ((Memref.whole cc0_scratch0).slice (Rect.unit (s := S2x1024x2048) off S1x1024x2048.size inb) (fun _ => rfl))
                ∗ owns (c : Thread nD τ) A fullShare v ∗ semVal ((c : Thread nD τ), .dma q) 0 ∗ Owes c k)
            -∗ wp frame (wpE (defs₀ (F := F)) 𝒱₀ (c : Thread nD τ) none) Set.univ (kk (inW v)) Q)
          -∗ wp frame (wpE (defs₀ (F := F)) 𝒱₀ (c : Thread nD τ) none) Set.univ
              (.op (.waitDma2 q A (((Memref.whole cc0_scratch0).slice (Rect.unit (s := S2x1024x2048) off S1x1024x2048.size inb) (fun _ => rfl)).squeeze S1024x2048 squeezes_S1x1024x2048_S1024x2048) hsrc hdst)
                fun _ => .op (.load (Memref.whole cc0_scratch0) (Rect.unit (s := S2x1024x2048) off S1x1024x2048.size inb).toLoadRect hl) kk) Q) :=
  wp_take I K k c hq (m := Memref.whole cc0_scratch0) (r := Rect.unit (s := S2x1024x2048) off S1x1024x2048.size inb) (fun _ => rfl) castW v rfl

/-- The end of a second weight block's copy and the load of its slot. -/
theorem wp_takeU (k : ℕ) (c : Dev nD) {q : DmaSem sig} (hq : q.val < 16 + 2 + k) {off : Fin 3 → ℕ}
    {inb : ∀ a, off a + S1x2048x1024.size a ≤ S2x2048x1024.size a} {A : Memref sig .tc .hbm S2048x1024 .f32} {hsrc : A.view.WordExact}
    {hdst : (((Memref.whole cc0_scratch1 : Memref sig .tc .vmem S2x2048x1024 .f32).slice (Rect.unit (s := S2x2048x1024) off S1x2048x1024.size inb) (fun _ => rfl)).squeeze S2048x1024 squeezes_S1x2048x1024_S2048x1024).view.WordExact}
    {hl : (Memref.whole cc0_scratch1 : Memref sig .tc .vmem S2x2048x1024 .f32).view.LoadsAt (Rect.unit (s := S2x2048x1024) off S1x2048x1024.size inb).toLoadRect} (v : Vec F S2048x1024 .f32)
    {kk : (S1x2048x1024.Idx → Elt F .f32) → Prog (TpuEff nD τ sig (Elt F) Λ₀ .tc) α} :
    iprop(ctx I K ∗ FetchU c q ((Memref.whole cc0_scratch1).slice (Rect.unit (s := S2x2048x1024) off S1x2048x1024.size inb) (fun _ => rfl)) A v ∗ Owes c k : sProp 𝕄)
      ⊢ iprop((iprop(ownsAny c ((Memref.whole cc0_scratch1).slice (Rect.unit (s := S2x2048x1024) off S1x2048x1024.size inb) (fun _ => rfl))
                ∗ owns (c : Thread nD τ) A fullShare v ∗ semVal ((c : Thread nD τ), .dma q) 0 ∗ Owes c k)
            -∗ wp frame (wpE (defs₀ (F := F)) 𝒱₀ (c : Thread nD τ) none) Set.univ (kk (inU v)) Q)
          -∗ wp frame (wpE (defs₀ (F := F)) 𝒱₀ (c : Thread nD τ) none) Set.univ
              (.op (.waitDma2 q A (((Memref.whole cc0_scratch1).slice (Rect.unit (s := S2x2048x1024) off S1x2048x1024.size inb) (fun _ => rfl)).squeeze S2048x1024 squeezes_S1x2048x1024_S2048x1024) hsrc hdst)
                fun _ => .op (.load (Memref.whole cc0_scratch1) (Rect.unit (s := S2x2048x1024) off S1x2048x1024.size inb).toLoadRect hl) kk) Q) :=
  wp_take I K k c hq (m := Memref.whole cc0_scratch1) (r := Rect.unit (s := S2x2048x1024) off S1x2048x1024.size inb) (fun _ => rfl) castU v rfl

/-! ## The exchange's steps at numerals -/

/-- Message `e` sent, the messages counted by numerals. -/
theorem wp_send (e : Fin 12) (k k' : ℕ) (he : e.val = k) (hk : k' = k + 1) (c : Dev nD) {n : Dev nD} (hn : n = peer e c)
    {src : Memref sig .tc .vmem S64x512 .bf16} (hs : src = sndMsg e)
    {dst : Memref sig .tc .vmem S64x512 .bf16} (hd : dst = rcvMsg e)
    {sS rS : DmaSem sig} (hsS : sS = sendS e) (hrS : rS = recvS e)
    {hsc : dst.view.ref.isScScratch = false} {hsrc : src.view.WordExact} {hdst : dst.view.WordExact}
    {hsem : DmaTarget.Typed (p := .tc) .vmem (.dma rS) (.remote (Dev.tc n : Thread nD τ) dst (.dma sS) hsc)}
    {kk : PUnit → Prog (TpuEff nD τ sig (Elt F) Λ₀ .tc) α} :
    iprop(ctx I K ∗ Ready e c (P I e c) ∗ Owes c k)
      ⊢ iprop((iprop(Sent e c ∗ Owes c k') -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma sS) hsc) (.dma rS) hsrc hdst hsem) kk) Q) := by
  subst hk he
  exact wp_xsend I K e c hn hs hd hsS hrS rfl

/-! ## The start of a message -/

/-- What a message needs before its receiver has said that its slot is free. -/
def Pend (e : Fin 12) (c : Dev nD) : sProp 𝕄 :=
  iprop(ownsAny c (sndSlot e) ∗ dutyTok ER (sendCell c e) 0 false ∗ dutyTok ER (recvCell (peer e c) e) 0 false
    ∗ atPos ER (sendCell c e) 0 ∅ 0 ∗ atPos ER (recvCell c e) 0 ∅ 0 ∗ cred (tallyAt (recvCell c e) () N))

end Slots

end Cert.KernelIdealProof

end
-- ==== Proof.KernelIdealParts.lean ====
/-
# The kernel's body, part by part

What each part of the body needs, what it leaves, and which values it passes on.
-/
module

public import proofs.«01_k».proof.Proof.KernelIdealSteps

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × Cell → ℕ)

/-! ## The devices the program names -/

theorem dev1_eq (c : Dev nD) : (⟨k0_dev1 c, k0_dev1_lt c⟩ : Dev nD) = p1 c := by revert c; decide +kernel
theorem dev2_eq (c : Dev nD) : (⟨k0_dev2 c, k0_dev2_lt c⟩ : Dev nD) = p2 c := by revert c; decide +kernel
theorem dev3_eq (c : Dev nD) : (⟨k0_dev3 c, k0_dev3_lt c⟩ : Dev nD) = peer 0 c := by revert c; decide +kernel
theorem dev4_eq (c : Dev nD) : (⟨k0_dev4 c, k0_dev4_lt c⟩ : Dev nD) = peer 1 c := by revert c; decide +kernel
theorem dev5_eq (c : Dev nD) : (⟨k0_dev5 c, k0_dev5_lt c⟩ : Dev nD) = peer 2 c := by revert c; decide +kernel
theorem dev6_eq (c : Dev nD) : (⟨k0_dev6 c, k0_dev6_lt c⟩ : Dev nD) = peer 3 c := by revert c; decide +kernel
theorem dev7_eq (c : Dev nD) : (⟨k0_dev7 c, k0_dev7_lt c⟩ : Dev nD) = peer 4 c := by revert c; decide +kernel
theorem dev8_eq (c : Dev nD) : (⟨k0_dev8 c, k0_dev8_lt c⟩ : Dev nD) = peer 5 c := by revert c; decide +kernel
theorem dev9_eq (c : Dev nD) : (⟨k0_dev9 c, k0_dev9_lt c⟩ : Dev nD) = peer 6 c := by revert c; decide +kernel
theorem dev10_eq (c : Dev nD) : (⟨k0_dev10 c, k0_dev10_lt c⟩ : Dev nD) = peer 7 c := by revert c; decide +kernel
theorem dev11_eq (c : Dev nD) : (⟨k0_dev11 c, k0_dev11_lt c⟩ : Dev nD) = peer 8 c := by revert c; decide +kernel
theorem dev12_eq (c : Dev nD) : (⟨k0_dev12 c, k0_dev12_lt c⟩ : Dev nD) = peer 9 c := by revert c; decide +kernel
theorem dev13_eq (c : Dev nD) : (⟨k0_dev13 c, k0_dev13_lt c⟩ : Dev nD) = peer 10 c := by revert c; decide +kernel
theorem dev14_eq (c : Dev nD) : (⟨k0_dev14 c, k0_dev14_lt c⟩ : Dev nD) = peer 11 c := by revert c; decide +kernel

/-! ## The twelve messages together -/

/-- The partners' receive slots handed over, every message may be written and sent. -/
theorem idle_all (c : Dev nD) :
    iprop((bigSep Finset.univ fun e : Fin 12 => ownsAny (peer e c) (rcvSlot e)) ∗ (bigSep Finset.univ fun e : Fin 12 => Pend e c))
      ⊢ (iprop(Idle 0 c ∗ Idle 1 c ∗ Idle 2 c ∗ Idle 3 c ∗ Idle 4 c ∗ Idle 5 c ∗ Idle 6 c ∗ Idle 7 c ∗ Idle 8 c ∗ Idle 9 c ∗ Idle 10 c ∗ Idle 11 c) : sProp 𝕄) := by
  rw [← bigSep_sep']
  refine (bigSep_mono fun e _ => (?_ : _ ⊢ (Idle e c : sProp 𝕄))).trans ?_
  · unfold Pend Idle Toks
    iintro ⟨HR, HS, HT⟩
    isplitl [HS]; · iexact HS
    isplitl [HR] <;> iassumption
  · rw [bigSep_univ_eq_bigSepL [0, 1, 2, 3, 4, 5, 6, 7, 8, 9, 10, 11] (by decide) (by decide)]
    simp only [bigSepL_cons_cons, bigSepL_singleton]
    exact BI.Entails.refl _

/-- All twelve exchanges over. -/
theorem done_all (c : Dev nD) :
    (iprop(Done 0 c ∗ Done 1 c ∗ Done 2 c ∗ Done 3 c ∗ Done 4 c ∗ Done 5 c ∗ Done 6 c ∗ Done 7 c ∗ Done 8 c ∗ Done 9 c ∗ Done 10 c ∗ Done 11 c) : sProp 𝕄)
      ⊢ bigSep Finset.univ fun e : Fin 12 => Done e c := by
  rw [bigSep_univ_eq_bigSepL [0, 1, 2, 3, 4, 5, 6, 7, 8, 9, 10, 11] (by decide) (by decide)]
  simp only [bigSepL_cons_cons, bigSepL_singleton]
  exact BI.Entails.refl _

section Parts

variable (c : Dev nD)

/-- Messages 0 and 1 leave, and the copy of the third layer's first weights starts. -/
theorem part3 (v3 v53 : BitVec 32) {Kt : _ → sProp 𝕄} :
    iprop(ctx I K ∗ Ready 0 c (P I 0 c) ∗ Owes c 0 ∗ Idle 1 c ∗ owns (c : Thread nD τ) (Memref.whole main_arg5) fullShare (I c).w2 ∗ ownsAny c wSlot0
         ∗ semVal ((c : Thread nD τ), .dma wSem0) 0
        ∗ (iprop(Sent 0 c ∗ Sent 1 c ∗ Owes c 2 ∗ FetchW c wSem0 wSlot0 (Memref.whole main_arg5) (I c).w2) -∗ Kt (a1 I c)))
      ⊢ wp frame (wpE (defs₀ (F := F)) 𝒱₀ (c : Thread nD τ) none) Set.univ
          (k0_part3 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v3 (hid0 I c) (k0_pay2 (inU (I c).u0)) v53) Kt := by
  rw [k0_part3_eq_skeleton]
  unfold k0_part3_skel
  unfold a1
  simp only [semSignalWord, semWaitWord, Prog.lift, Prog.bind_op, Prog.bind_ret, Prog.pure_eq_ret]
  iintro ⟨#HC, M0, HO, M1, A5, W0, SW0, Hk⟩
  iapply (wp_send I K 0 0 1 rfl rfl c (dev3_eq c) rfl rfl rfl rfl) $$ [M0 HO]
  · isplitr; · iexact HC
    isplitl [M0] <;> iassumption
  iintro ⟨M0, HO⟩
  iapply (wp_peek 1 c rfl) $$ M1
  iintro %v M1
  iapply (wp_write I 1 c rfl (w := k0_pay6 (hid0 I c) (k0_pay2 (inU (I c).u0))) rfl) $$ M1
  iintro M1
  iapply (wp_send I K 1 1 2 rfl rfl c (dev4_eq c) rfl rfl rfl rfl) $$ [M1 HO]
  · isplitr; · iexact HC
    isplitl [M1] <;> iassumption
  iintro ⟨M1, HO⟩
  iapply (wp_fetch c castW (by decide) (I c).w2) $$ [A5 W0 SW0]
  · isplitl [A5]; · iexact A5
    isplitl [W0] <;> iassumption
  iintro F5
  rw [wp_ret]
  imodintro
  iapply Hk
  isplitl [M0]; · iexact M0
  isplitl [M1]; · iexact M1
  isplitl [HO]; · iexact HO
  iexact F5

/-- The copy of the third layer's second weights starts; message 0 arrives, message 2 leaves. -/
theorem part4 (v3 v4 : BitVec 32) {Kt : _ → sProp 𝕄} :
    iprop(ctx I K ∗ Sent 0 c ∗ Owes c 2 ∗ Idle 2 c ∗ owns (c : Thread nD τ) (Memref.whole main_arg6) fullShare (I c).u2 ∗ ownsAny c uSlot0
         ∗ semVal ((c : Thread nD τ), .dma uSem0) 0
        ∗ (iprop(Got I 0 c ∗ Sent 2 c ∗ Owes c 3 ∗ FetchU c uSem0 uSlot0 (Memref.whole main_arg6) (I c).u2) -∗ Kt (s0 I c)))
      ⊢ wp frame (wpE (defs₀ (F := F)) 𝒱₀ (c : Thread nD τ) none) Set.univ
          (k0_part4 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v3 v4 (a0 I c)) Kt := by
  rw [k0_part4_eq_skeleton]
  unfold k0_part4_skel
  unfold s0
  simp only [semSignalWord, semWaitWord, Prog.lift, Prog.bind_op, Prog.bind_ret, Prog.pure_eq_ret]
  iintro ⟨#HC, M0, HO, M2, A6, U0, SU0, Hk⟩
  iapply (wp_fetch c castU (by decide) (I c).u2) $$ [A6 U0 SU0]
  · isplitl [A6]; · iexact A6
    isplitl [U0] <;> iassumption
  iintro F6
  iapply (wp_xrecv I K 0 c 2 (by decide) rfl rfl) $$ [M0 HO]
  · isplitr; · iexact HC
    isplitl [M0] <;> iassumption
  iintro ⟨M0, HO⟩
  iapply (wp_loadRecv I 0 c rfl (w := P0 I (p1 c)) rfl) $$ M0
  iintro M0
  iapply (wp_peek 2 c rfl) $$ M2
  iintro %v M2
  iapply (wp_write I 2 c rfl (w := k0_pay8 (a0 I c) (P0 I (p1 c))) rfl) $$ M2
  iintro M2
  iapply (wp_send I K 2 2 3 rfl rfl c (dev5_eq c) rfl rfl rfl rfl) $$ [M2 HO]
  · isplitr; · iexact HC
    isplitl [M2] <;> iassumption
  iintro ⟨M2, HO⟩
  rw [wp_ret]
  imodintro
  iapply Hk
  isplitl [M0]; · iexact M0
  isplitl [M2]; · iexact M2
  isplitl [HO]; · iexact HO
  iexact F6

/-- Message 1 arrives, message 3 leaves. -/
theorem part5 (v3 v4 : BitVec 32) {Kt : _ → sProp 𝕄} :
    iprop(ctx I K ∗ Sent 1 c ∗ Owes c 3 ∗ Idle 3 c
        ∗ (iprop(Got I 1 c ∗ Sent 3 c ∗ Owes c 4) -∗ Kt (s1 I c)))
      ⊢ wp frame (wpE (defs₀ (F := F)) 𝒱₀ (c : Thread nD τ) none) Set.univ
          (k0_part5 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v3 v4 (a1 I c)) Kt := by
  rw [k0_part5_eq_skeleton]
  unfold k0_part5_skel
  unfold s1
  simp only [semSignalWord, semWaitWord, Prog.lift, Prog.bind_op, Prog.bind_ret, Prog.pure_eq_ret]
  iintro ⟨#HC, M1, HO, M3, Hk⟩
  iapply (wp_xrecv I K 1 c 3 (by decide) rfl rfl) $$ [M1 HO]
  · isplitr; · iexact HC
    isplitl [M1] <;> iassumption
  iintro ⟨M1, HO⟩
  iapply (wp_loadRecv I 1 c rfl (w := P1 I (p1 c)) rfl) $$ M1
  iintro M1
  iapply (wp_peek 3 c rfl) $$ M3
  iintro %v M3
  iapply (wp_write I 3 c rfl (w := k0_pay10 (a1 I c) (P1 I (p1 c))) rfl) $$ M3
  iintro M3
  iapply (wp_send I K 3 3 4 rfl rfl c (dev6_eq c) rfl rfl rfl rfl) $$ [M3 HO]
  · isplitr; · iexact HC
    isplitl [M3] <;> iassumption
  iintro ⟨M3, HO⟩
  rw [wp_ret]
  imodintro
  iapply Hk
  isplitl [M1]; · iexact M1
  isplitl [M3]; · iexact M3
  iexact HO

/-- The second layer's first weights are there; messages 2 and 3 arrive. -/
theorem part6 (v4 : BitVec 32) {Kt : _ → sProp 𝕄} :
    iprop(ctx I K ∗ FetchW c wSem1 wSlot1 (Memref.whole main_arg3) (I c).w1 ∗ Sent 2 c ∗ Sent 3 c ∗ Owes c 4
        ∗ (iprop(ownsAny c wSlot1 ∗ owns (c : Thread nD τ) (Memref.whole main_arg3) fullShare (I c).w1 ∗ semVal ((c : Thread nD τ), .dma wSem1) 0
         ∗ Got I 2 c ∗ Got I 3 c ∗ Owes c 4) -∗ Kt ⟨g1 I c, t1 I c⟩))
      ⊢ wp frame (wpE (defs₀ (F := F)) 𝒱₀ (c : Thread nD τ) none) Set.univ
          (k0_part6 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v4 (s0 I c)) Kt := by
  rw [k0_part6_eq_skeleton]
  unfold k0_part6_skel
  unfold g1 t1
  simp only [semSignalWord, semWaitWord, Prog.lift, Prog.bind_op, Prog.bind_ret, Prog.pure_eq_ret]
  iintro ⟨#HC, F3, M2, M3, HO, Hk⟩
  iapply (wp_takeW I K 4 c (by decide) (I c).w1) $$ [F3 HO]
  · isplitr; · iexact HC
    isplitl [F3] <;> iassumption
  iintro ⟨W1, A3, SW1, HO⟩
  iapply (wp_xrecv I K 2 c 4 (by decide) rfl rfl) $$ [M2 HO]
  · isplitr; · iexact HC
    isplitl [M2] <;> iassumption
  iintro ⟨M2, HO⟩
  iapply (wp_loadRecv I 2 c rfl (w := P2 I (p2 c)) rfl) $$ M2
  iintro M2
  iapply (wp_xrecv I K 3 c 4 (by decide) rfl rfl) $$ [M3 HO]
  · isplitr; · iexact HC
    isplitl [M3] <;> iassumption
  iintro ⟨M3, HO⟩
  rw [wp_ret]
  imodintro
  iapply Hk
  isplitl [W1]; · iexact W1
  isplitl [A3]; · iexact A3
  isplitl [SW1]; · iexact SW1
  isplitl [M2]; · iexact M2
  isplitl [M3]; · iexact M3
  iexact HO

/-- The second layer's second weights are there; message 4 is written. -/
theorem part7 (v3 : BitVec 32) {Kt : _ → sProp 𝕄} :
    iprop(ctx I K ∗ Got I 3 c ∗ FetchU c uSem1 uSlot1 (Memref.whole main_arg4) (I c).u1 ∗ Owes c 4 ∗ Idle 4 c
        ∗ (iprop(Got I 3 c ∗ ownsAny c uSlot1 ∗ owns (c : Thread nD τ) (Memref.whole main_arg4) fullShare (I c).u1 ∗ semVal ((c : Thread nD τ), .dma uSem1) 0
         ∗ Ready 4 c (P I 4 c) ∗ Owes c 4) -∗ Kt ⟨hid1 I c, k0_pay14 (inU (I c).u1), b0 I c⟩))
      ⊢ wp frame (wpE (defs₀ (F := F)) 𝒱₀ (c : Thread nD τ) none) Set.univ
          (k0_part7 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v3 (s1 I c) (g1 I c) (t1 I c)) Kt := by
  rw [k0_part7_eq_skeleton]
  unfold k0_part7_skel
  unfold hid1 b0
  simp only [semSignalWord, semWaitWord, Prog.lift, Prog.bind_op, Prog.bind_ret, Prog.pure_eq_ret]
  iintro ⟨#HC, M3, F4, HO, M4, Hk⟩
  iapply (wp_loadRecv I 3 c rfl (w := P3 I (p2 c)) rfl) $$ M3
  iintro M3
  iapply (wp_takeU I K 4 c (by decide) (I c).u1) $$ [F4 HO]
  · isplitr; · iexact HC
    isplitl [F4] <;> iassumption
  iintro ⟨U1, A4, SU1, HO⟩
  iapply (wp_peek 4 c rfl) $$ M4
  iintro %v M4
  iapply (wp_write I 4 c rfl (w := k0_pay16 (s1 I c) (g1 I c) (t1 I c) (P3 I (p2 c)) (inU (I c).u1)) rfl) $$ M4
  iintro M4
  rw [wp_ret]
  imodintro
  iapply Hk
  isplitl [M3]; · iexact M3
  isplitl [U1]; · iexact U1
  isplitl [A4]; · iexact A4
  isplitl [SU1]; · iexact SU1
  isplitl [M4]; · iexact M4
  iexact HO

/-- Messages 4 and 5 leave; message 4 arrives. -/
theorem part8 (v3 : BitVec 32) {Kt : _ → sProp 𝕄} :
    iprop(ctx I K ∗ Ready 4 c (P I 4 c) ∗ Idle 5 c ∗ Owes c 4
        ∗ (iprop(Got I 4 c ∗ Sent 5 c ∗ Owes c 6) -∗ Kt ⟨b1 I c, c0 I c⟩))
      ⊢ wp frame (wpE (defs₀ (F := F)) 𝒱₀ (c : Thread nD τ) none) Set.univ
          (k0_part8 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v3 (hid1 I c) (k0_pay14 (inU (I c).u1)) (b0 I c)) Kt := by
  rw [k0_part8_eq_skeleton]
  unfold k0_part8_skel
  unfold b1 c0
  simp only [semSignalWord, semWaitWord, Prog.lift, Prog.bind_op, Prog.bind_ret, Prog.pure_eq_ret]
  iintro ⟨#HC, M4, M5, HO, Hk⟩
  iapply (wp_send I K 4 4 5 rfl rfl c (dev7_eq c) rfl rfl rfl rfl) $$ [M4 HO]
  · isplitr; · iexact HC
    isplitl [M4] <;> iassumption
  iintro ⟨M4, HO⟩
  iapply (wp_peek 5 c rfl) $$ M5
  iintro %v M5
  iapply (wp_write I 5 c rfl (w := k0_pay18 (hid1 I c) (k0_pay14 (inU (I c).u1))) rfl) $$ M5
  iintro M5
  iapply (wp_send I K 5 5 6 rfl rfl c (dev8_eq c) rfl rfl rfl rfl) $$ [M5 HO]
  · isplitr; · iexact HC
    isplitl [M5] <;> iassumption
  iintro ⟨M5, HO⟩
  iapply (wp_xrecv I K 4 c 6 (by decide) rfl rfl) $$ [M4 HO]
  · isplitr; · iexact HC
    isplitl [M4] <;> iassumption
  iintro ⟨M4, HO⟩
  iapply (wp_loadRecv I 4 c rfl (w := P4 I (p1 c)) rfl) $$ M4
  iintro M4
  rw [wp_ret]
  imodintro
  iapply Hk
  isplitl [M4]; · iexact M4
  isplitl [M5]; · iexact M5
  iexact HO

/-- Message 6 leaves, message 5 arrives, and the send slot 7 is read for nothing. -/
theorem part9 (v3 v4 : BitVec 32) {Kt : _ → sProp 𝕄} :
    iprop(ctx I K ∗ Idle 6 c ∗ Owes c 6 ∗ Sent 5 c ∗ Idle 7 c
        ∗ (∀ v, iprop(Sent 6 c ∗ Got I 5 c ∗ Owes c 7 ∗ Idle 7 c) -∗ Kt ⟨c1 I c, k0_pay22 (b1 I c) (P5 I (p1 c)), v⟩))
      ⊢ wp frame (wpE (defs₀ (F := F)) 𝒱₀ (c : Thread nD τ) none) Set.univ
          (k0_part9 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v3 v4 (b1 I c) (c0 I c)) Kt := by
  rw [k0_part9_eq_skeleton]
  unfold k0_part9_skel
  unfold c1
  simp only [semSignalWord, semWaitWord, Prog.lift, Prog.bind_op, Prog.bind_ret, Prog.pure_eq_ret]
  iintro ⟨#HC, M6, HO, M5, M7, Hk⟩
  iapply (wp_peek 6 c rfl) $$ M6
  iintro %v M6
  iapply (wp_write I 6 c rfl (w := k0_pay20 (c0 I c)) rfl) $$ M6
  iintro M6
  iapply (wp_send I K 6 6 7 rfl rfl c (dev9_eq c) rfl rfl rfl rfl) $$ [M6 HO]
  · isplitr; · iexact HC
    isplitl [M6] <;> iassumption
  iintro ⟨M6, HO⟩
  iapply (wp_xrecv I K 5 c 7 (by decide) rfl rfl) $$ [M5 HO]
  · isplitr; · iexact HC
    isplitl [M5] <;> iassumption
  iintro ⟨M5, HO⟩
  iapply (wp_loadRecv I 5 c rfl (w := P5 I (p1 c)) rfl) $$ M5
  iintro M5
  iapply (wp_peek 7 c rfl) $$ M7
  iintro %v M7
  rw [wp_ret]
  imodintro
  iapply Hk
  isplitl [M6]; · iexact M6
  isplitl [M5]; · iexact M5
  isplitl [HO]; · iexact HO
  iexact M7

/-- Message 7 leaves; the third layer's first weights are there; message 6 arrives. -/
theorem part10 (v4 : BitVec 32) (v258 : Vec F S1x64x512 .bf16) {Kt : _ → sProp 𝕄} :
    iprop(ctx I K ∗ Idle 7 c ∗ Owes c 7 ∗ FetchW c wSem0 wSlot0 (Memref.whole main_arg5) (I c).w2 ∗ Sent 6 c
        ∗ (iprop(Sent 7 c ∗ Got I 6 c ∗ Owes c 8 ∗ ownsAny c wSlot0 ∗ owns (c : Thread nD τ) (Memref.whole main_arg5) fullShare (I c).w2
         ∗ semVal ((c : Thread nD τ), .dma wSem0) 0) -∗ Kt (k0_pay24 (inW (I c).w2))))
      ⊢ wp frame (wpE (defs₀ (F := F)) 𝒱₀ (c : Thread nD τ) none) Set.univ
          (k0_part10 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v4 (k0_pay22 (b1 I c) (P5 I (p1 c))) v258) Kt := by
  rw [k0_part10_eq_skeleton]
  unfold k0_part10_skel
  simp only [semSignalWord, semWaitWord, Prog.lift, Prog.bind_op, Prog.bind_ret, Prog.pure_eq_ret]
  iintro ⟨#HC, M7, HO, F5, M6, Hk⟩
  iapply (wp_write I 7 c rfl (w := k0_pay23 (k0_pay22 (b1 I c) (P5 I (p1 c)))) rfl) $$ M7
  iintro M7
  iapply (wp_send I K 7 7 8 rfl rfl c (dev10_eq c) rfl rfl rfl rfl) $$ [M7 HO]
  · isplitr; · iexact HC
    isplitl [M7] <;> iassumption
  iintro ⟨M7, HO⟩
  iapply (wp_takeW I K 8 c (by decide) (I c).w2) $$ [F5 HO]
  · isplitr; · iexact HC
    isplitl [F5] <;> iassumption
  iintro ⟨W0, A5, SW0, HO⟩
  iapply (wp_xrecv I K 6 c 8 (by decide) rfl rfl) $$ [M6 HO]
  · isplitr; · iexact HC
    isplitl [M6] <;> iassumption
  iintro ⟨M6, HO⟩
  rw [wp_ret]
  imodintro
  iapply Hk
  isplitl [M7]; · iexact M7
  isplitl [M6]; · iexact M6
  isplitl [HO]; · iexact HO
  isplitl [W0]; · iexact W0
  isplitl [A5]; · iexact A5
  iexact SW0

/-- Message 7 arrives; the third layer's second weights are there. -/
theorem part11 (v4 : BitVec 32) {Kt : _ → sProp 𝕄} :
    iprop(ctx I K ∗ Got I 6 c ∗ Sent 7 c ∗ FetchU c uSem0 uSlot0 (Memref.whole main_arg6) (I c).u2 ∗ Owes c 8
        ∗ (iprop(Got I 6 c ∗ Got I 7 c ∗ Owes c 8 ∗ ownsAny c uSlot0 ∗ owns (c : Thread nD τ) (Memref.whole main_arg6) fullShare (I c).u2
         ∗ semVal ((c : Thread nD τ), .dma uSem0) 0) -∗ Kt ⟨hid2 I c, k0_pay26 (inU (I c).u2), k0_pay27 (inU (I c).u2)⟩))
      ⊢ wp frame (wpE (defs₀ (F := F)) 𝒱₀ (c : Thread nD τ) none) Set.univ
          (k0_part11 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v4 (c0 I c) (c1 I c) (k0_pay24 (inW (I c).w2))) Kt := by
  rw [k0_part11_eq_skeleton]
  unfold k0_part11_skel
  unfold hid2
  simp only [semSignalWord, semWaitWord, Prog.lift, Prog.bind_op, Prog.bind_ret, Prog.pure_eq_ret]
  iintro ⟨#HC, M6, M7, F6, HO, Hk⟩
  iapply (wp_loadRecv I 6 c rfl (w := P6 I (p2 c)) rfl) $$ M6
  iintro M6
  iapply (wp_xrecv I K 7 c 8 (by decide) rfl rfl) $$ [M7 HO]
  · isplitr; · iexact HC
    isplitl [M7] <;> iassumption
  iintro ⟨M7, HO⟩
  iapply (wp_loadRecv I 7 c rfl (w := P7 I (p2 c)) rfl) $$ M7
  iintro M7
  iapply (wp_takeU I K 8 c (by decide) (I c).u2) $$ [F6 HO]
  · isplitr; · iexact HC
    isplitl [F6] <;> iassumption
  iintro ⟨U0, A6, SU0, HO⟩
  rw [wp_ret]
  imodintro
  iapply Hk
  isplitl [M6]; · iexact M6
  isplitl [M7]; · iexact M7
  isplitl [HO]; · iexact HO
  isplitl [U0]; · iexact U0
  isplitl [A6]; · iexact A6
  iexact SU0

/-- Message 8 leaves, message 9 is written. -/
theorem part12 (v3 : BitVec 32) {Kt : _ → sProp 𝕄} :
    iprop(ctx I K ∗ Idle 8 c ∗ Idle 9 c ∗ Owes c 8
        ∗ (iprop(Sent 8 c ∗ Ready 9 c (P I 9 c) ∗ Owes c 9) -∗ Kt ⟨d0 I c, d1 I c⟩))
      ⊢ wp frame (wpE (defs₀ (F := F)) 𝒱₀ (c : Thread nD τ) none) Set.univ
          (k0_part12 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v3 (hid2 I c) (k0_pay26 (inU (I c).u2)) (k0_pay27 (inU (I c).u2))) Kt := by
  rw [k0_part12_eq_skeleton]
  unfold k0_part12_skel
  unfold d0 d1
  simp only [semSignalWord, semWaitWord, Prog.lift, Prog.bind_op, Prog.bind_ret, Prog.pure_eq_ret]
  iintro ⟨#HC, M8, M9, HO, Hk⟩
  iapply (wp_peek 8 c rfl) $$ M8
  iintro %v M8
  iapply (wp_write I 8 c rfl (w := k0_pay29 (hid2 I c) (k0_pay27 (inU (I c).u2))) rfl) $$ M8
  iintro M8
  iapply (wp_send I K 8 8 9 rfl rfl c (dev11_eq c) rfl rfl rfl rfl) $$ [M8 HO]
  · isplitr; · iexact HC
    isplitl [M8] <;> iassumption
  iintro ⟨M8, HO⟩
  iapply (wp_peek 9 c rfl) $$ M9
  iintro %v M9
  iapply (wp_write I 9 c rfl (w := k0_pay31 (hid2 I c) (k0_pay26 (inU (I c).u2))) rfl) $$ M9
  iintro M9
  rw [wp_ret]
  imodintro
  iapply Hk
  isplitl [M8]; · iexact M8
  isplitl [M9]; · iexact M9
  iexact HO

/-- Messages 9 and 10 leave, message 8 arrives. -/
theorem part13 (v3 v4 : BitVec 32) {Kt : _ → sProp 𝕄} :
    iprop(ctx I K ∗ Ready 9 c (P I 9 c) ∗ Sent 8 c ∗ Idle 10 c ∗ Owes c 9
        ∗ (iprop(Sent 9 c ∗ Got I 8 c ∗ Sent 10 c ∗ Owes c 11) -∗ Kt (e0 I c)))
      ⊢ wp frame (wpE (defs₀ (F := F)) 𝒱₀ (c : Thread nD τ) none) Set.univ
          (k0_part13 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v3 v4 (d0 I c)) Kt := by
  rw [k0_part13_eq_skeleton]
  unfold k0_part13_skel
  unfold e0
  simp only [semSignalWord, semWaitWord, Prog.lift, Prog.bind_op, Prog.bind_ret, Prog.pure_eq_ret]
  iintro ⟨#HC, M9, M8, M10, HO, Hk⟩
  iapply (wp_send I K 9 9 10 rfl rfl c (dev12_eq c) rfl rfl rfl rfl) $$ [M9 HO]
  · isplitr; · iexact HC
    isplitl [M9] <;> iassumption
  iintro ⟨M9, HO⟩
  iapply (wp_xrecv I K 8 c 10 (by decide) rfl rfl) $$ [M8 HO]
  · isplitr; · iexact HC
    isplitl [M8] <;> iassumption
  iintro ⟨M8, HO⟩
  iapply (wp_loadRecv I 8 c rfl (w := P8 I (p1 c)) rfl) $$ M8
  iintro M8
  iapply (wp_peek 10 c rfl) $$ M10
  iintro %v M10
  iapply (wp_write I 10 c rfl (w := k0_pay33 (d0 I c) (P8 I (p1 c))) rfl) $$ M10
  iintro M10
  iapply (wp_send I K 10 10 11 rfl rfl c (dev13_eq c) rfl rfl rfl rfl) $$ [M10 HO]
  · isplitr; · iexact HC
    isplitl [M10] <;> iassumption
  iintro ⟨M10, HO⟩
  rw [wp_ret]
  imodintro
  iapply Hk
  isplitl [M9]; · iexact M9
  isplitl [M8]; · iexact M8
  isplitl [M10]; · iexact M10
  iexact HO

/-- Message 9 arrives, message 11 leaves. -/
theorem part14 (v3 v4 : BitVec 32) {Kt : _ → sProp 𝕄} :
    iprop(ctx I K ∗ Sent 9 c ∗ Idle 11 c ∗ Owes c 11
        ∗ (iprop(Got I 9 c ∗ Sent 11 c ∗ Owes c 12) -∗ Kt ⟨e1 I c, Scalar.muli v4 1#32, 0#32⟩))
      ⊢ wp frame (wpE (defs₀ (F := F)) 𝒱₀ (c : Thread nD τ) none) Set.univ
          (k0_part14 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v3 v4 (d1 I c)) Kt := by
  rw [k0_part14_eq_skeleton]
  unfold k0_part14_skel
  unfold e1
  simp only [semSignalWord, semWaitWord, Prog.lift, Prog.bind_op, Prog.bind_ret, Prog.pure_eq_ret]
  iintro ⟨#HC, M9, M11, HO, Hk⟩
  iapply (wp_xrecv I K 9 c 11 (by decide) rfl rfl) $$ [M9 HO]
  · isplitr; · iexact HC
    isplitl [M9] <;> iassumption
  iintro ⟨M9, HO⟩
  iapply (wp_loadRecv I 9 c rfl (w := P9 I (p1 c)) rfl) $$ M9
  iintro M9
  iapply (wp_peek 11 c rfl) $$ M11
  iintro %v M11
  iapply (wp_write I 11 c rfl (w := k0_pay35 (d1 I c) (P9 I (p1 c))) rfl) $$ M11
  iintro M11
  iapply (wp_send I K 11 11 12 rfl rfl c (dev14_eq c) rfl rfl rfl rfl) $$ [M11 HO]
  · isplitr; · iexact HC
    isplitl [M11] <;> iassumption
  iintro ⟨M11, HO⟩
  rw [wp_ret]
  imodintro
  iapply Hk
  isplitl [M9]; · iexact M9
  isplitl [M11]; · iexact M11
  iexact HO

/-- Messages 10 and 11 arrive, and the two halves of the result are written. -/
theorem part15 (v4 v403 k0 : BitVec 32) (f : Vec F S64x1024 .f32) {Kt : _ → sProp 𝕄} :
    iprop(ctx I K ∗ Sent 10 c ∗ Sent 11 c ∗ Owes c 12 ∗ ((c : Thread nD τ).loc cc0_stg1_0 ↦{fullShare} f)
        ∗ (iprop(Got I 10 c ∗ Got I 11 c ∗ Owes c 12 ∗ ((c : Thread nD τ).loc cc0_stg1_0 ↦{fullShare} outAt I c)) -∗ Kt ⟨⟩))
      ⊢ wp frame (wpE (defs₀ (F := F)) 𝒱₀ (c : Thread nD τ) none) Set.univ
          (k0_part15 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v4 (e0 I c) (e1 I c) v403 k0) Kt := by
  rw [k0_part15_eq_skeleton]
  unfold k0_part15_skel
  unfold outAt
  rw [halves_eq (I c).x f]
  unfold o0 o1
  simp only [semSignalWord, semWaitWord, Prog.lift, Prog.bind_op, Prog.bind_ret, Prog.pure_eq_ret]
  iintro ⟨#HC, M10, M11, HO, HX, Hk⟩
  iapply (wp_xrecv I K 10 c 12 (by decide) rfl rfl) $$ [M10 HO]
  · isplitr; · iexact HC
    isplitl [M10] <;> iassumption
  iintro ⟨M10, HO⟩
  iapply (wp_loadRecv I 10 c rfl (w := P10 I (p2 c)) rfl) $$ M10
  iintro M10
  iapply (wp_peekOut c _) $$ HX
  iintro %v HX
  iapply (wp_storeOut c _) $$ HX
  iintro HX
  iapply (wp_xrecv I K 11 c 12 (by decide) rfl rfl) $$ [M11 HO]
  · isplitr; · iexact HC
    isplitl [M11] <;> iassumption
  iintro ⟨M11, HO⟩
  iapply (wp_loadRecv I 11 c rfl (w := P11 I (p2 c)) rfl) $$ M11
  iintro M11
  iapply (wp_peekOut c _) $$ HX
  iintro %v' HX
  iapply (wp_storeOut c _) $$ HX
  iintro HX
  rw [wp_ret]
  imodintro
  iapply Hk
  isplitl [M10]; · iexact M10
  isplitl [M11]; · iexact M11
  isplitl [HO] <;> iassumption

/-- Messages 0 to 3 have left. -/
theorem part16 {Kt : _ → sProp 𝕄} :
    iprop(ctx I K ∗ Got I 0 c ∗ Got I 1 c ∗ Got I 2 c ∗ Got I 3 c ∗ Owes c 12
        ∗ (iprop(Done 0 c ∗ Done 1 c ∗ Done 2 c ∗ Done 3 c ∗ Owes c 12) -∗ Kt ⟨⟩))
      ⊢ wp frame (wpE (defs₀ (F := F)) 𝒱₀ (c : Thread nD τ) none) Set.univ
          (k0_part16 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Kt := by
  rw [k0_part16_eq_skeleton]
  unfold k0_part16_skel
  simp only [semSignalWord, semWaitWord, Prog.lift, Prog.bind_op, Prog.bind_ret, Prog.pure_eq_ret]
  iintro ⟨#HC, M0, M1, M2, M3, HO, Hk⟩
  iapply (wp_xdone I K 0 c rfl rfl) $$ [M0 HO]
  · isplitr; · iexact HC
    isplitl [M0] <;> iassumption
  iintro ⟨M0, HO⟩
  iapply (wp_xdone I K 1 c rfl rfl) $$ [M1 HO]
  · isplitr; · iexact HC
    isplitl [M1] <;> iassumption
  iintro ⟨M1, HO⟩
  iapply (wp_xdone I K 2 c rfl rfl) $$ [M2 HO]
  · isplitr; · iexact HC
    isplitl [M2] <;> iassumption
  iintro ⟨M2, HO⟩
  iapply (wp_xdone I K 3 c rfl rfl) $$ [M3 HO]
  · isplitr; · iexact HC
    isplitl [M3] <;> iassumption
  iintro ⟨M3, HO⟩
  rw [wp_ret]
  imodintro
  iapply Hk
  isplitl [M0]; · iexact M0
  isplitl [M1]; · iexact M1
  isplitl [M2]; · iexact M2
  isplitl [M3]; · iexact M3
  iexact HO

/-- Messages 4 to 6 have left. -/
theorem part17 {Kt : _ → sProp 𝕄} :
    iprop(ctx I K ∗ Got I 4 c ∗ Got I 5 c ∗ Got I 6 c ∗ Owes c 12
        ∗ (iprop(Done 4 c ∗ Done 5 c ∗ Done 6 c ∗ Owes c 12) -∗ Kt ⟨⟩))
      ⊢ wp frame (wpE (defs₀ (F := F)) 𝒱₀ (c : Thread nD τ) none) Set.univ
          (k0_part17 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Kt := by
  rw [k0_part17_eq_skeleton]
  unfold k0_part17_skel
  simp only [semSignalWord, semWaitWord, Prog.lift, Prog.bind_op, Prog.bind_ret, Prog.pure_eq_ret]
  iintro ⟨#HC, M4, M5, M6, HO, Hk⟩
  iapply (wp_xdone I K 4 c rfl rfl) $$ [M4 HO]
  · isplitr; · iexact HC
    isplitl [M4] <;> iassumption
  iintro ⟨M4, HO⟩
  iapply (wp_xdone I K 5 c rfl rfl) $$ [M5 HO]
  · isplitr; · iexact HC
    isplitl [M5] <;> iassumption
  iintro ⟨M5, HO⟩
  iapply (wp_xdone I K 6 c rfl rfl) $$ [M6 HO]
  · isplitr; · iexact HC
    isplitl [M6] <;> iassumption
  iintro ⟨M6, HO⟩
  rw [wp_ret]
  imodintro
  iapply Hk
  isplitl [M4]; · iexact M4
  isplitl [M5]; · iexact M5
  isplitl [M6]; · iexact M6
  iexact HO

/-- Messages 7 to 10 have left. -/
theorem part18 {Kt : _ → sProp 𝕄} :
    iprop(ctx I K ∗ Got I 7 c ∗ Got I 8 c ∗ Got I 9 c ∗ Got I 10 c ∗ Owes c 12
        ∗ (iprop(Done 7 c ∗ Done 8 c ∗ Done 9 c ∗ Done 10 c ∗ Owes c 12) -∗ Kt ⟨⟩))
      ⊢ wp frame (wpE (defs₀ (F := F)) 𝒱₀ (c : Thread nD τ) none) Set.univ
          (k0_part18 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Kt := by
  rw [k0_part18_eq_skeleton]
  unfold k0_part18_skel
  simp only [semSignalWord, semWaitWord, Prog.lift, Prog.bind_op, Prog.bind_ret, Prog.pure_eq_ret]
  iintro ⟨#HC, M7, M8, M9, M10, HO, Hk⟩
  iapply (wp_xdone I K 7 c rfl rfl) $$ [M7 HO]
  · isplitr; · iexact HC
    isplitl [M7] <;> iassumption
  iintro ⟨M7, HO⟩
  iapply (wp_xdone I K 8 c rfl rfl) $$ [M8 HO]
  · isplitr; · iexact HC
    isplitl [M8] <;> iassumption
  iintro ⟨M8, HO⟩
  iapply (wp_xdone I K 9 c rfl rfl) $$ [M9 HO]
  · isplitr; · iexact HC
    isplitl [M9] <;> iassumption
  iintro ⟨M9, HO⟩
  iapply (wp_xdone I K 10 c rfl rfl) $$ [M10 HO]
  · isplitr; · iexact HC
    isplitl [M10] <;> iassumption
  iintro ⟨M10, HO⟩
  rw [wp_ret]
  imodintro
  iapply Hk
  isplitl [M7]; · iexact M7
  isplitl [M8]; · iexact M8
  isplitl [M9]; · iexact M9
  isplitl [M10]; · iexact M10
  iexact HO

/-- The first two layers' weights start to come in, and the two partners are told that the receive slots are free. -/
theorem part1 {Kt : _ → sProp 𝕄} :
    iprop(ctx I K ∗ owns (c : Thread nD τ) (Memref.whole main_arg1) fullShare (I c).w0 ∗ owns (c : Thread nD τ) (Memref.whole main_arg2) fullShare (I c).u0
         ∗ owns (c : Thread nD τ) (Memref.whole main_arg3) fullShare (I c).w1 ∗ owns (c : Thread nD τ) (Memref.whole main_arg4) fullShare (I c).u1
         ∗ ownsAny c wSlot0 ∗ ownsAny c uSlot0 ∗ ownsAny c wSlot1 ∗ ownsAny c uSlot1 ∗ semVal ((c : Thread nD τ), .dma wSem0) 0
         ∗ semVal ((c : Thread nD τ), .dma uSem0) 0 ∗ semVal ((c : Thread nD τ), .dma wSem1) 0 ∗ semVal ((c : Thread nD τ), .dma uSem1) 0
        ∗ (∃ W, owes (c : Thread nD τ) (O₀ c) W) ∗ dutyTok ER (barCell (p1 c)) 0 false ∗ dutyTok ER (barCell (p2 c)) 0 true
        ∗ barPay (F := F) (p1 c) false ∗ barPay (F := F) (p2 c) true
        ∗ (∀ v3 v4, iprop(FetchW c wSem0 wSlot0 (Memref.whole main_arg1) (I c).w0 ∗ FetchU c uSem0 uSlot0 (Memref.whole main_arg2) (I c).u0
         ∗ FetchW c wSem1 wSlot1 (Memref.whole main_arg3) (I c).w1 ∗ FetchU c uSem1 uSlot1 (Memref.whole main_arg4) (I c).u1
         ∗ Owes c 0) -∗ Kt ⟨c, v3, v4, SemArray.scalar (sig.barrier 0 rfl)⟩))
      ⊢ wp frame (wpE (defs₀ (F := F)) 𝒱₀ (c : Thread nD τ) none) Set.univ
          (k0_part1 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  rw [k0_part1_eq_skeleton]
  unfold k0_part1_skel
  simp only [semSignalWord, semWaitWord, Prog.lift, Prog.bind_op, Prog.bind_ret, Prog.pure_eq_ret, wp_deviceId]
  iintro ⟨#HC, A1, A2, A3, A4, W0, U0, W1, U1, SW0, SU0, SW1, SU1, HO, T1, T2, B1, B2, Hk⟩
  icases HO with ⟨%W, HO⟩
  iapply (wp_fetch c castW (by decide) (I c).w0) $$ [A1 W0 SW0]
  · isplitl [A1]; · iexact A1
    isplitl [W0] <;> iassumption
  iintro F1
  iapply (wp_fetch c castU (by decide) (I c).u0) $$ [A2 U0 SU0]
  · isplitl [A2]; · iexact A2
    isplitl [U0] <;> iassumption
  iintro F2
  iapply (wp_fetch c castW (by decide) (I c).w1) $$ [A3 W1 SW1]
  · isplitl [A3]; · iexact A3
    isplitl [W1] <;> iassumption
  iintro F3
  iapply (wp_fetch c castU (by decide) (I c).u1) $$ [A4 U1 SU1]
  · isplitl [A4]; · iexact A4
    isplitl [U1] <;> iassumption
  iintro F4
  iapply (wp_signal₁ I K c (dev1_eq c) rfl rfl) $$ [HO T1 B1]
  · isplitr; · iexact HC
    isplitl [HO]; · iexact HO
    isplitl [T1] <;> iassumption
  iintro HO
  iapply (wp_signal₂ I K c (dev2_eq c) rfl rfl) $$ [HO T2 B2]
  · isplitr; · iexact HC
    isplitl [HO]; · iexact HO
    isplitl [T2] <;> iassumption
  iintro HO
  rw [wp_ret]
  imodintro
  iapply Hk
  isplitl [F1]; · iexact F1
  isplitl [F2]; · iexact F2
  isplitl [F3]; · iexact F3
  isplitl [F4]; · iexact F4
  unfold Owes
  iexists _; iexact HO

/-- The partners are ready, the first layer's weights are there, and message 0 is written. -/
theorem part2 (v3 : BitVec 32) {Kt : _ → sProp 𝕄} :
    iprop(ctx I K ∗ cred (tallyAt (barCell c) () 2) ∗ atPos ER (barCell c) 0 ∅ 0 ∗ Owes c 0 ∗ Xs I c
        ∗ FetchW c wSem0 wSlot0 (Memref.whole main_arg1) (I c).w0 ∗ FetchU c uSem0 uSlot0 (Memref.whole main_arg2) (I c).u0
        ∗ (bigSep Finset.univ fun e : Fin 12 => Pend e c)
        ∗ (∀ v53, iprop(Xs I c ∗ ownsAny c wSlot0 ∗ owns (c : Thread nD τ) (Memref.whole main_arg1) fullShare (I c).w0 ∗ semVal ((c : Thread nD τ), .dma wSem0) 0
         ∗ ownsAny c uSlot0 ∗ owns (c : Thread nD τ) (Memref.whole main_arg2) fullShare (I c).u0 ∗ semVal ((c : Thread nD τ), .dma uSem0) 0
         ∗ Owes c 0 ∗ semVal (barCell c) 0
            ∗ Ready 0 c (P I 0 c) ∗ Idle 1 c ∗ Idle 2 c ∗ Idle 3 c ∗ Idle 4 c ∗ Idle 5 c ∗ Idle 6 c ∗ Idle 7 c ∗ Idle 8 c ∗ Idle 9 c ∗ Idle 10 c ∗ Idle 11 c)
          -∗ Kt ⟨hid0 I c, k0_pay2 (inU (I c).u0), a0 I c, v53⟩))
      ⊢ wp frame (wpE (defs₀ (F := F)) 𝒱₀ (c : Thread nD τ) none) Set.univ
          (k0_part2 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v3 (SemArray.scalar (sig.barrier 0 rfl))) Kt := by
  rw [k0_part2_eq_skeleton]
  unfold k0_part2_skel
  unfold hid0 a0
  simp only [semSignalWord, semWaitWord, Prog.lift, Prog.bind_op, Prog.bind_ret, Prog.pure_eq_ret]
  iintro ⟨#HC, Hc, Ha, HO, X, F1, F2, HP, Hk⟩
  iapply (wp_barrier I K c rfl rfl) $$ [Hc Ha HO]
  · isplitr; · iexact HC
    isplitl [Hc]; · iexact Hc
    isplitl [Ha] <;> iassumption
  iintro ⟨HR, HB, HO⟩
  ihave HM := (idle_all c) $$ [HR HP]
  · isplitl [HR] <;> iassumption
  icases HM with ⟨M0, HM⟩
  iapply (wp_loadX I c) $$ X
  iintro X
  iapply (wp_takeW I K 0 c (by decide) (I c).w0) $$ [F1 HO]
  · isplitr; · iexact HC
    isplitl [F1] <;> iassumption
  iintro ⟨W0, A1, SW0, HO⟩
  iapply (wp_takeU I K 0 c (by decide) (I c).u0) $$ [F2 HO]
  · isplitr; · iexact HC
    isplitl [F2] <;> iassumption
  iintro ⟨U0, A2, SU0, HO⟩
  iapply (wp_peek 0 c rfl) $$ M0
  iintro %v M0
  iapply (wp_write I 0 c rfl (w := k0_pay4 (I c).x (inW (I c).w0) (inU (I c).u0)) rfl) $$ M0
  iintro M0
  rw [wp_ret]
  imodintro
  iapply Hk
  isplitl [X]; · iexact X
  isplitl [W0]; · iexact W0
  isplitl [A1]; · iexact A1
  isplitl [SW0]; · iexact SW0
  isplitl [U0]; · iexact U0
  isplitl [A2]; · iexact A2
  isplitl [SU0]; · iexact SU0
  isplitl [HO]; · iexact HO
  isplitl [HB]; · iexact HB
  isplitl [M0] <;> iassumption

end Parts

end Cert.KernelIdealProof

end
-- ==== Proof.KernelIdealBody.lean ====
/-
# The kernel's body

The buffers cut into the slots the body works on, the body run from start to end, and the obligation it meets.
-/
module

public import proofs.«01_k».proof.Proof.KernelIdealParts

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (I : Dev nD → Ins F) (K : Dev nD × Cell → ℕ)

/-! ## Buffers and their slots -/

section Blocks

variable {NB : ℕ} (b : Ref sig .tc) (R : Fin NB → Rect b.ty.shape) (hr : ∀ i a, (R i).stride a = 1)
  (hd : ∀ i j, i ≠ j → Disjoint (R i).set (R j).set) (hc : Finset.univ.biUnion (fun i => (R i).set) = Finset.univ)

omit [FloatOps F] in
include hd hc in
/-- A buffer at some contents is all its slots at some contents, -/
theorem slots_split (c : Dev nD) :
    (iprop(∃ f : Buf (Elt F) ((c : Thread nD τ).loc b), (c : Thread nD τ).loc b ↦{fullShare} f) : sProp 𝕄)
      ⊢ bigSep Finset.univ fun i => ownsAny c ((Memref.whole b).slice (R i) (hr i)) := by
  iintro ⟨%f, H⟩
  ihave H := (Entails.of_eq (Ring.pointsTo_blocks (fun i => (R i).set) hd hc f)) $$ H
  have hm : (bigSep Finset.univ fun i => ((c : Thread nD τ).loc b ↦[(R i).set]{fullShare} f : sProp 𝕄))
      ⊢ bigSep Finset.univ fun i => ownsAny c ((Memref.whole b).slice (R i) (hr i)) := bigSep_mono fun i _ => ?_
  · iapply hm; iexact H
  · exact (Entails.of_eq (by rw [show ((Memref.whole b).slice (R i) (hr i)).view.set = (R i).set from View.set_slice_whole _ _])).trans
      (ownsAny_of_pts c ((Memref.whole b).slice (R i) (hr i)) f)

omit [FloatOps F] in
include hd hc in
/-- and back. -/
theorem slots_join (c : Dev nD) (f₀ : Buf (Elt F) ((c : Thread nD τ).loc b)) :
    (bigSep Finset.univ fun i => ownsAny c ((Memref.whole b).slice (R i) (hr i)))
      ⊢ (iprop(∃ f : Buf (Elt F) ((c : Thread nD τ).loc b), (c : Thread nD τ).loc b ↦{fullShare} f) : sProp 𝕄) := by
  refine (bigSep_mono fun i _ => ?_).trans (Ring.pointsTo_blocks_join_exists (fun i => (R i).set) hd hc f₀)
  refine (pts_of_ownsAny c ((Memref.whole b).slice (R i) (hr i))).trans ?_
  rw [show ((Memref.whole b).slice (R i) (hr i)).view.set = (R i).set from View.set_slice_whole _ _]

end Blocks

theorem slot_disjoint (e e' : Fin 12) (h : e ≠ e') : Disjoint (slotRect e).set (slotRect e').set :=
  Ring.lead_disjoint (s := S12x64x512) 0 1 (fun e : Fin 12 => ![e.val, 0, 0]) S1x64x512.size slot_inb (fun b => (Nat.one_mul _).symm) rfl e e' h
theorem slot_cover : Finset.univ.biUnion (fun e : Fin 12 => (slotRect e).set) = Finset.univ :=
  Ring.lead_cover (s := S12x64x512) 0 1 (fun e : Fin 12 => ![e.val, 0, 0]) S1x64x512.size slot_inb (fun b => (Nat.one_mul _).symm)
    (by decide) rfl (by decide) rfl

/-- The two slots of the first weights' buffer. -/
def wRect (i : Fin 2) : Rect S2x1024x2048 :=
  Rect.unit (s := S2x1024x2048) ![i.val, 0, 0] S1x1024x2048.size (by revert i; decide)
/-- The two slots of the second weights' buffer. -/
def uRect (i : Fin 2) : Rect S2x2048x1024 :=
  Rect.unit (s := S2x2048x1024) ![i.val, 0, 0] S1x2048x1024.size (by revert i; decide)

theorem w_disjoint (i j : Fin 2) (h : i ≠ j) : Disjoint (wRect i).set (wRect j).set :=
  Ring.lead_disjoint (s := S2x1024x2048) 0 1 (fun e : Fin 2 => ![e.val, 0, 0]) S1x1024x2048.size (by decide) (fun b => (Nat.one_mul _).symm) rfl i j h
theorem w_cover : Finset.univ.biUnion (fun i => (wRect i).set) = Finset.univ :=
  Ring.lead_cover (s := S2x1024x2048) 0 1 (fun e : Fin 2 => ![e.val, 0, 0]) S1x1024x2048.size (by decide) (fun b => (Nat.one_mul _).symm)
    (by decide) rfl (by decide) rfl
theorem u_disjoint (i j : Fin 2) (h : i ≠ j) : Disjoint (uRect i).set (uRect j).set :=
  Ring.lead_disjoint (s := S2x2048x1024) 0 1 (fun e : Fin 2 => ![e.val, 0, 0]) S1x2048x1024.size (by decide) (fun b => (Nat.one_mul _).symm) rfl i j h
theorem u_cover : Finset.univ.biUnion (fun i => (uRect i).set) = Finset.univ :=
  Ring.lead_cover (s := S2x2048x1024) 0 1 (fun e : Fin 2 => ![e.val, 0, 0]) S1x2048x1024.size (by decide) (fun b => (Nat.one_mul _).symm)
    (by decide) rfl (by decide) rfl

/-- A scratch buffer at some contents. -/
abbrev someBuf (c : Dev nD) (b : Ref sig .tc) : sProp 𝕄 :=
  iprop(∃ f : Buf (Elt F) ((c : Thread nD τ).loc b), (c : Thread nD τ).loc b ↦{fullShare} f)

omit [FloatOps F] in
theorem bigSep_two (Φ : Fin 2 → sProp 𝕄) : bigSep Finset.univ Φ = iprop(Φ 0 ∗ Φ 1) :=
  bigSep_univ_eq_bigSepL [0, 1] (by decide) (by decide) Φ

omit [FloatOps F] in
theorem w_split (c : Dev nD) : (someBuf c cc0_scratch0 : sProp 𝕄) ⊢ iprop(ownsAny c wSlot0 ∗ ownsAny c wSlot1) :=
  (slots_split cc0_scratch0 wRect (fun _ _ => rfl) w_disjoint w_cover c).trans (Entails.of_eq (bigSep_two _))
omit [FloatOps F] in
theorem u_split (c : Dev nD) : (someBuf c cc0_scratch1 : sProp 𝕄) ⊢ iprop(ownsAny c uSlot0 ∗ ownsAny c uSlot1) :=
  (slots_split cc0_scratch1 uRect (fun _ _ => rfl) u_disjoint u_cover c).trans (Entails.of_eq (bigSep_two _))
theorem w_join (c : Dev nD) : iprop(ownsAny c wSlot0 ∗ ownsAny c wSlot1) ⊢ (someBuf c cc0_scratch0 : sProp 𝕄) :=
  (Entails.of_eq (bigSep_two fun i => ownsAny c ((Memref.whole cc0_scratch0).slice (wRect i) (fun _ => rfl))).symm).trans
    (slots_join cc0_scratch0 wRect (fun _ _ => rfl) w_disjoint w_cover c fun _ => FloatOps.ofBits .f32 0)
theorem u_join (c : Dev nD) : iprop(ownsAny c uSlot0 ∗ ownsAny c uSlot1) ⊢ (someBuf c cc0_scratch1 : sProp 𝕄) :=
  (Entails.of_eq (bigSep_two fun i => ownsAny c ((Memref.whole cc0_scratch1).slice (uRect i) (fun _ => rfl))).symm).trans
    (slots_join cc0_scratch1 uRect (fun _ _ => rfl) u_disjoint u_cover c fun _ => FloatOps.ofBits .f32 0)

omit [FloatOps F] in
theorem snd_split (c : Dev nD) : (someBuf c cc0_scratch2 : sProp 𝕄) ⊢ bigSep Finset.univ fun e : Fin 12 => ownsAny c (sndSlot e) :=
  slots_split cc0_scratch2 slotRect (fun _ _ => rfl) slot_disjoint slot_cover c
omit [FloatOps F] in
theorem rcv_split (c : Dev nD) : (someBuf c cc0_scratch3 : sProp 𝕄) ⊢ bigSep Finset.univ fun e : Fin 12 => ownsAny c (rcvSlot e) :=
  slots_split cc0_scratch3 slotRect (fun _ _ => rfl) slot_disjoint slot_cover c
theorem snd_join (c : Dev nD) : (bigSep Finset.univ fun e : Fin 12 => ownsAny c (sndSlot e)) ⊢ (someBuf c cc0_scratch2 : sProp 𝕄) :=
  slots_join cc0_scratch2 slotRect (fun _ _ => rfl) slot_disjoint slot_cover c fun _ => FloatOps.ofBits .bf16 0
theorem rcv_join (c : Dev nD) : (bigSep Finset.univ fun e : Fin 12 => ownsAny c (rcvSlot e)) ⊢ (someBuf c cc0_scratch3 : sProp 𝕄) :=
  slots_join cc0_scratch3 slotRect (fun _ _ => rfl) slot_disjoint slot_cover c fun _ => FloatOps.ofBits .bf16 0

omit [FloatOps F] in
/-- A device's receive slots are what it hands its two partners. -/
theorem bar_pays (c : Dev nD) :
    (bigSep Finset.univ fun e : Fin 12 => ownsAny c (rcvSlot e))
      ⊢ (iprop(barPay (p1 c) false ∗ barPay (p2 c) true) : sProp 𝕄) := by
  rw [BI.bigSep_filter_split Finset.univ fun e : Fin 12 => kind e = false]
  unfold barPay
  refine sep_mono (Entails.of_eq (bigSep_congr fun e he => ?_)) (Entails.of_eq ?_)
  · have h : peer e (p1 c) = c := by
      have := (Finset.mem_filter.mp he).2
      unfold peer; rw [this]; exact p1_p1 c
    rw [h]
  · rw [show (Finset.univ.filter fun e : Fin 12 => ¬ kind e = false) = Finset.univ.filter fun e : Fin 12 => kind e = true from by simp]
    refine bigSep_congr fun e he => ?_
    have h : peer e (p2 c) = c := by
      have := (Finset.mem_filter.mp he).2
      unfold peer; rw [this]; exact p2_p2 c
    rw [h]

/-! ## The body -/

section Body

variable (c : Dev nD)

/-- The weights' arrays, at the weights. -/
def Args : sProp 𝕄 :=
  iprop(owns (c : Thread nD τ) (Memref.whole main_arg1) fullShare (I c).w0 ∗ owns (c : Thread nD τ) (Memref.whole main_arg2) fullShare (I c).u0
    ∗ owns (c : Thread nD τ) (Memref.whole main_arg3) fullShare (I c).w1 ∗ owns (c : Thread nD τ) (Memref.whole main_arg4) fullShare (I c).u1
    ∗ owns (c : Thread nD τ) (Memref.whole main_arg5) fullShare (I c).w2 ∗ owns (c : Thread nD τ) (Memref.whole main_arg6) fullShare (I c).u2)
/-- The slots of the weights' buffers. -/
def WSlots : sProp 𝕄 := iprop(ownsAny c wSlot0 ∗ ownsAny c uSlot0 ∗ ownsAny c wSlot1 ∗ ownsAny c uSlot1)
/-- The semaphores of the local copies, at zero. -/
def WSems : sProp 𝕄 :=
  iprop(semVal ((c : Thread nD τ), .dma wSem0) 0 ∗ semVal ((c : Thread nD τ), .dma uSem0) 0
    ∗ semVal ((c : Thread nD τ), .dma wSem1) 0 ∗ semVal ((c : Thread nD τ), .dma uSem1) 0)
/-- What the barrier takes: the two units' duties, the credit of two, and the place at the own cell. -/
def BarToks : sProp 𝕄 :=
  iprop(dutyTok ER (barCell (p1 c)) 0 false ∗ dutyTok ER (barCell (p2 c)) 0 true ∗ cred (tallyAt (barCell c) () 2) ∗ atPos ER (barCell c) 0 ∅ 0)
/-- The result's staging buffer. -/
def Out (f : Vec F S64x1024 .f32) : sProp 𝕄 := (c : Thread nD τ).loc cc0_stg1_0 ↦{fullShare} f

set_option maxHeartbeats 2000000 in
/-- The body from start to end. -/
theorem body_run (f : Vec F S64x1024 .f32) {Kt : PUnit → sProp 𝕄} :
    iprop(ctx I K ∗ Args I c ∗ WSlots (F := F) c ∗ WSems (F := F) c ∗ (∃ W, owes (c : Thread nD τ) (O₀ c) W) ∗ BarToks (F := F) c
        ∗ (bigSep Finset.univ fun e : Fin 12 => ownsAny c (rcvSlot e)) ∗ (bigSep Finset.univ fun e : Fin 12 => Pend e c)
        ∗ Xs I c ∗ Out c f
        ∗ (iprop(Args I c ∗ WSlots (F := F) c ∗ WSems (F := F) c ∗ semVal (barCell c) 0 ∗ Xs I c ∗ Out c (outAt I c) ∗ Owes c 12
            ∗ bigSep Finset.univ fun e : Fin 12 => Done e c) -∗ Kt ⟨⟩))
      ⊢ wp frame (wpE (defs₀ (F := F)) 𝒱₀ (c : Thread nD τ) none) Set.univ
          (cc0_body xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _)
            oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  rw [cc0_body_eq_skeleton]
  unfold cc0_body_skel
  simp only [wp_bind]
  unfold Args WSlots WSems BarToks Out
  iintro ⟨#HC, ⟨A1, A2, A3, A4, A5, A6⟩, ⟨W0, U0, W1, U1⟩, ⟨SW0, SU0, SW1, SU1⟩, HO, ⟨T1, T2, Hc, Ha⟩, HR, HP, X, O, Hk⟩
  ihave HR := (bar_pays c) $$ HR
  icases HR with ⟨P1, P2⟩
  iapply (part1 I K c)
  isplitr; · iexact HC
  isplitl [A1]; · iexact A1
  isplitl [A2]; · iexact A2
  isplitl [A3]; · iexact A3
  isplitl [A4]; · iexact A4
  isplitl [W0]; · iexact W0
  isplitl [U0]; · iexact U0
  isplitl [W1]; · iexact W1
  isplitl [U1]; · iexact U1
  isplitl [SW0]; · iexact SW0
  isplitl [SU0]; · iexact SU0
  isplitl [SW1]; · iexact SW1
  isplitl [SU1]; · iexact SU1
  isplitl [HO]; · iexact HO
  isplitl [T1]; · iexact T1
  isplitl [T2]; · iexact T2
  isplitl [P1]; · iexact P1
  isplitl [P2]; · iexact P2
  iintro %v3 %v4 ⟨F1, F2, F3, F4, HO⟩
  iapply (part2 I K c v3)
  isplitr; · iexact HC
  isplitl [Hc]; · iexact Hc
  isplitl [Ha]; · iexact Ha
  isplitl [HO]; · iexact HO
  isplitl [X]; · iexact X
  isplitl [F1]; · iexact F1
  isplitl [F2]; · iexact F2
  isplitl [HP]; · iexact HP
  iintro %v53 ⟨X, W0, A1, SW0, U0, A2, SU0, HO, HB, M0, M1, M2, M3, M4, M5, M6, M7, M8, M9, M10, M11⟩
  iapply (part3 I K c v3 v53)
  isplitr; · iexact HC
  isplitl [M0]; · iexact M0
  isplitl [HO]; · iexact HO
  isplitl [M1]; · iexact M1
  isplitl [A5]; · iexact A5
  isplitl [W0]; · iexact W0
  isplitl [SW0]; · iexact SW0
  iintro ⟨M0, M1, HO, F5⟩
  iapply (part4 I K c v3 v4)
  isplitr; · iexact HC
  isplitl [M0]; · iexact M0
  isplitl [HO]; · iexact HO
  isplitl [M2]; · iexact M2
  isplitl [A6]; · iexact A6
  isplitl [U0]; · iexact U0
  isplitl [SU0]; · iexact SU0
  iintro ⟨M0, M2, HO, F6⟩
  iapply (part5 I K c v3 v4)
  isplitr; · iexact HC
  isplitl [M1]; · iexact M1
  isplitl [HO]; · iexact HO
  isplitl [M3]; · iexact M3
  iintro ⟨M1, M3, HO⟩
  iapply (part6 I K c v4)
  isplitr; · iexact HC
  isplitl [F3]; · iexact F3
  isplitl [M2]; · iexact M2
  isplitl [M3]; · iexact M3
  isplitl [HO]; · iexact HO
  iintro ⟨W1, A3, SW1, M2, M3, HO⟩
  iapply (part7 I K c v3)
  isplitr; · iexact HC
  isplitl [M3]; · iexact M3
  isplitl [F4]; · iexact F4
  isplitl [HO]; · iexact HO
  isplitl [M4]; · iexact M4
  iintro ⟨M3, U1, A4, SU1, M4, HO⟩
  iapply (part8 I K c v3)
  isplitr; · iexact HC
  isplitl [M4]; · iexact M4
  isplitl [M5]; · iexact M5
  isplitl [HO]; · iexact HO
  iintro ⟨M4, M5, HO⟩
  iapply (part9 I K c v3 v4)
  isplitr; · iexact HC
  isplitl [M6]; · iexact M6
  isplitl [HO]; · iexact HO
  isplitl [M5]; · iexact M5
  isplitl [M7]; · iexact M7
  iintro %v258 ⟨M6, M5, HO, M7⟩
  iapply (part10 I K c v4 v258)
  isplitr; · iexact HC
  isplitl [M7]; · iexact M7
  isplitl [HO]; · iexact HO
  isplitl [F5]; · iexact F5
  isplitl [M6]; · iexact M6
  iintro ⟨M7, M6, HO, W0, A5, SW0⟩
  iapply (part11 I K c v4)
  isplitr; · iexact HC
  isplitl [M6]; · iexact M6
  isplitl [M7]; · iexact M7
  isplitl [F6]; · iexact F6
  isplitl [HO]; · iexact HO
  iintro ⟨M6, M7, HO, U0, A6, SU0⟩
  iapply (part12 I K c v3)
  isplitr; · iexact HC
  isplitl [M8]; · iexact M8
  isplitl [M9]; · iexact M9
  isplitl [HO]; · iexact HO
  iintro ⟨M8, M9, HO⟩
  iapply (part13 I K c v3 v4)
  isplitr; · iexact HC
  isplitl [M9]; · iexact M9
  isplitl [M8]; · iexact M8
  isplitl [M10]; · iexact M10
  isplitl [HO]; · iexact HO
  iintro ⟨M9, M8, M10, HO⟩
  iapply (part14 I K c v3 v4)
  isplitr; · iexact HC
  isplitl [M9]; · iexact M9
  isplitl [M11]; · iexact M11
  isplitl [HO]; · iexact HO
  iintro ⟨M9, M11, HO⟩
  iapply (part15 I K c v4 (Scalar.muli v4 1#32) 0#32 f)
  isplitr; · iexact HC
  isplitl [M10]; · iexact M10
  isplitl [M11]; · iexact M11
  isplitl [HO]; · iexact HO
  isplitl [O]; · iexact O
  iintro ⟨M10, M11, HO, O⟩
  iapply (part16 I K c)
  isplitr; · iexact HC
  isplitl [M0]; · iexact M0
  isplitl [M1]; · iexact M1
  isplitl [M2]; · iexact M2
  isplitl [M3]; · iexact M3
  isplitl [HO]; · iexact HO
  iintro ⟨M0, M1, M2, M3, HO⟩
  iapply (part17 I K c)
  isplitr; · iexact HC
  isplitl [M4]; · iexact M4
  isplitl [M5]; · iexact M5
  isplitl [M6]; · iexact M6
  isplitl [HO]; · iexact HO
  iintro ⟨M4, M5, M6, HO⟩
  iapply (part18 I K c)
  isplitr; · iexact HC
  isplitl [M7]; · iexact M7
  isplitl [M8]; · iexact M8
  isplitl [M9]; · iexact M9
  isplitl [M10]; · iexact M10
  isplitl [HO]; · iexact HO
  iintro ⟨M7, M8, M9, M10, HO⟩
  iapply (wp_xdone I K 11 c rfl rfl) $$ [M11 HO]
  · isplitr; · iexact HC
    isplitl [M11] <;> iassumption
  iintro ⟨M11, HO⟩
  rw [wp_ret]
  imodintro
  rw [Prog.pure_eq_ret, wp_ret]
  imodintro
  iapply Hk
  isplitl [A1 A2 A3 A4 A5 A6]
  · isplitl [A1]; · iexact A1
    isplitl [A2]; · iexact A2
    isplitl [A3]; · iexact A3
    isplitl [A4]; · iexact A4
    isplitl [A5] <;> iassumption
  isplitl [W0 U0 W1 U1]
  · isplitl [W0]; · iexact W0
    isplitl [U0]; · iexact U0
    isplitl [W1] <;> iassumption
  isplitl [SW0 SU0 SW1 SU1]
  · isplitl [SW0]; · iexact SW0
    isplitl [SU0]; · iexact SU0
    isplitl [SW1] <;> iassumption
  isplitl [HB]; · iexact HB
  isplitl [X]; · iexact X
  isplitl [O]; · iexact O
  isplitl [HO]; · iexact HO
  iapply (done_all c)
  isplitl [M0]; · iexact M0
  isplitl [M1]; · iexact M1
  isplitl [M2]; · iexact M2
  isplitl [M3]; · iexact M3
  isplitl [M4]; · iexact M4
  isplitl [M5]; · iexact M5
  isplitl [M6]; · iexact M6
  isplitl [M7]; · iexact M7
  isplitl [M8]; · iexact M8
  isplitl [M9]; · iexact M9
  isplitl [M10]; · iexact M10
  iexact M11

end Body

/-! ## What the body starts from and ends with -/

/-- The tokens of the twelve messages. -/
def Msgs (c : Dev nD) : sProp 𝕄 :=
  bigSep Finset.univ fun e : Fin 12 => iprop(dutyTok ER (sendCell c e) 0 false ∗ dutyTok ER (recvCell (peer e c) e) 0 false
    ∗ atPos ER (sendCell c e) 0 ∅ 0 ∗ atPos ER (recvCell c e) 0 ∅ 0 ∗ cred (tallyAt (recvCell c e) () N))

/-- The scratch buffers, at some contents. -/
def Scratch (c : Dev nD) : sProp 𝕄 :=
  iprop(someBuf c cc0_scratch0 ∗ someBuf c cc0_scratch1 ∗ someBuf c cc0_scratch2 ∗ someBuf c cc0_scratch3)

/-- The semaphores of the messages, at zero. -/
def MSems (c : Dev nD) : sProp 𝕄 :=
  iprop((bigSep Finset.univ fun e : Fin 12 => semVal (sendCell c e) 0) ∗ (bigSep Finset.univ fun e : Fin 12 => semVal (recvCell c e) 0))

/-- What the body starts from. -/
def Φ₀ (c : Dev nD) : sProp 𝕄 :=
  iprop((∃ K, ctx I K) ∗ BarToks (F := F) c ∗ Msgs (F := F) c ∗ WSems (F := F) c ∗ Args I c ∗ Scratch (F := F) c)
/-- What it ends with. -/
def Φ₁ (c : Dev nD) : sProp 𝕄 :=
  iprop(Args I c ∗ Scratch (F := F) c ∗ WSems (F := F) c ∗ MSems (F := F) c ∗ semVal (barCell c) 0)

omit [FloatOps F] in
/-- The buffers of the weights, cut. -/
theorem wslots (c : Dev nD) : iprop(someBuf c cc0_scratch0 ∗ someBuf c cc0_scratch1) ⊢ (WSlots c : sProp 𝕄) := by
  unfold WSlots
  iintro ⟨H0, H1⟩
  ihave H0 := (w_split c) $$ H0
  icases H0 with ⟨W0, W1⟩
  ihave H1 := (u_split c) $$ H1
  icases H1 with ⟨U0, U1⟩
  isplitl [W0]; · iexact W0
  isplitl [U0]; · iexact U0
  isplitl [W1] <;> iassumption

/-- And joined. -/
theorem wslots_back (c : Dev nD) : (WSlots c : sProp 𝕄) ⊢ iprop(someBuf c cc0_scratch0 ∗ someBuf c cc0_scratch1) := by
  unfold WSlots
  iintro ⟨W0, U0, W1, U1⟩
  isplitl [W0 W1]
  · iapply (w_join c); isplitl [W0] <;> iassumption
  iapply (u_join c); isplitl [U0] <;> iassumption

omit [FloatOps F] in
/-- Every message waits for its send slot and its tokens. -/
theorem pend_all (c : Dev nD) :
    iprop(someBuf c cc0_scratch2 ∗ Msgs (F := F) c) ⊢ (bigSep Finset.univ fun e : Fin 12 => Pend e c : sProp 𝕄) := by
  refine (BIClass.sep_mono (snd_split c) (BI.Entails.refl _)).trans ?_
  unfold Msgs
  rw [← bigSep_sep']
  exact bigSep_mono fun e _ => by unfold Pend; exact BI.Entails.refl _

/-- All exchanges over: the semaphores at zero, the buffers whole. -/
theorem done_back (c : Dev nD) :
    (bigSep Finset.univ fun e : Fin 12 => Done e c : sProp 𝕄) ⊢ iprop(MSems (F := F) c ∗ someBuf c cc0_scratch2 ∗ someBuf c cc0_scratch3) := by
  unfold Done MSems
  rw [bigSep_sep', bigSep_sep', bigSep_sep']
  iintro ⟨HS, HR, B2, B3⟩
  isplitl [HS HR]
  · isplitl [HS] <;> iassumption
  isplitl [B2]
  · iapply (snd_join c); iexact B2
  iapply (rcv_join c); iexact B3

/-- The body, from what it starts from to what it ends with. -/
theorem body_sound (c : Dev nD) (f : Vec F S64x1024 .f32) {Kt : PUnit → sProp 𝕄} :
    iprop(Φ₀ I c ∗ (∃ W, owes (c : Thread nD τ) (O₀ c) W) ∗ Xs I c ∗ Out c f
        ∗ (iprop(Φ₁ I c ∗ (∃ W, owes (c : Thread nD τ) 0 W) ∗ Xs I c ∗ Out c (outAt I c)) -∗ Kt ⟨⟩))
      ⊢ wp frame (wpE (defs₀ (F := F)) 𝒱₀ (c : Thread nD τ) none) Set.univ
          (cc0_body xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _)
            oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt := by
  unfold Φ₀ Φ₁ Scratch
  iintro ⟨⟨⟨%K, #HC⟩, HB, HM, HS, HA, B0, B1, B2, B3⟩, HO, X, O, Hk⟩
  iapply (body_run I K c f)
  isplitr; · iexact HC
  isplitl [HA]; · iexact HA
  isplitl [B0 B1]
  · iapply (wslots c); isplitl [B0] <;> iassumption
  isplitl [HS]; · iexact HS
  isplitl [HO]; · iexact HO
  isplitl [HB]; · iexact HB
  isplitl [B3]
  · iapply (rcv_split c); iexact B3
  isplitl [B2 HM]
  · iapply (pend_all c); isplitl [B2] <;> iassumption
  isplitl [X]; · iexact X
  isplitl [O]; · iexact O
  iintro ⟨HA, HW, HS, HB, X, O, HO, HD⟩
  ihave HW := (wslots_back c) $$ HW
  icases HW with ⟨B0, B1⟩
  ihave HD := (done_back c) $$ HD
  icases HD with ⟨HM, B2, B3⟩
  iapply Hk
  isplitl [HA B0 B1 B2 B3 HS HM HB]
  · isplitl [HA]; · iexact HA
    isplitl [B0 B1 B2 B3]
    · isplitl [B0]; · iexact B0
      isplitl [B1]; · iexact B1
      isplitl [B2] <;> iassumption
    isplitl [HS]; · iexact HS
    isplitl [HM] <;> iassumption
  isplitl [HO]
  · unfold Owes; rw [Orem_last]; iexact HO
  isplitl [X] <;> iassumption

/-! ## The obligation -/

section Obligation

variable (m : (ℓ : Loc nD τ sig) → Buf (Elt F) ℓ) (ρ : Dev nD → PrngReg)

/-- The inputs of every device, as memory holds them at the start. -/
def ins : Dev nD → Ins F := fun c =>
  { x := iblk m c 0 t0_0
    w0 := m ((c : Thread nD τ).loc main_arg1)
    u0 := m ((c : Thread nD τ).loc main_arg2)
    w1 := m ((c : Thread nD τ).loc main_arg3)
    u1 := m ((c : Thread nD τ).loc main_arg4)
    w2 := m ((c : Thread nD τ).loc main_arg5)
    u2 := m ((c : Thread nD τ).loc main_arg6) }

/-- The proof data of the one call. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m c).x
    | ⟨1, _⟩ => outAt (ins m) c
  Φ t := match t with
    | ⟨0, _⟩ => Φ₀ (ins m) c
    | ⟨_ + 1, _⟩ => Φ₁ (ins m) c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

def bodyPre (c : Dev nD) : sProp 𝕄 :=
  iprop(Φ₀ (ins m) c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ (ins m) c ∗ (dats m ρ 0 c).owesAt () t0_0.succ ∗ stg c cc0_stg0_0 (ins m c).x ∗ stg c cc0_stg1_0 (outAt (ins m) c))

/-- What the pipeline asks of the body on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ
    (cc0_body xM (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _)
            oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) (fun _ => bodyPost m ρ c)
  unfold bodyPre
  iintro ⟨HΦ, Ho, ⟨%d0, %g0, %hg0, X⟩, ⟨%d1, %g1, %hg1, O⟩⟩
  have hx : g0 = (ins m c).x := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  iapply (body_sound (ins m) c g1)
  unfold Xs Out
  isplitl [HΦ]; · iexact HΦ
  isplitl [HO]; · iexists W; iexact HO
  isplitl [X]; · iexact X
  isplitl [O]; · iexact O
  iintro ⟨HΦ, ⟨%W', HO⟩, X, O⟩
  unfold bodyPost Dat.owesAt Pipeline.owesWithin
  rw [show (dats m ρ 0 c).owed t0_0.succ = 0 from rfl]
  isplitl [HΦ]; · iexact HΦ
  isplitl [HO]
  · iexists W'
    isplitr; · ipureintro; exact fun _ _ => Or.inl trivial
    iexact HO
  isplitl [X]
  · iexists _; isplitr; · (ipureintro; rfl)
    iexact X
  iexists _; isplitr; · (ipureintro; rfl)
  iexact O

end Obligation

end Cert.KernelIdealProof

end
-- ==== Proof.KernelIdealRun.lean ====
/-
# The kernel's run

The launch of the kernel on the four devices, and what every device holds at the end.
-/
module

public import proofs.«01_k».proof.Proof.KernelIdealBody
public import Idealize.ShloMosaic.Lib.Quiescent
public import Idealize.ShloMosaic.Lib.Pipeline.Quiescent
public import Idealize.ShloMosaic.Lib.Pipeline.CollectiveSegs

@[expose] public section

set_option maxRecDepth 16384

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (I : Dev nD → Ins F)

/-! ## The kernel's own semaphores -/

/-- The semaphores of the local copies. -/
abbrev lsem : Fin 4 → SemLoc sig := fun | 0 => .dma wSem0 | 1 => .dma uSem0 | 2 => .dma wSem1 | 3 => .dma uSem1
/-- The kernel's own semaphores: the local copies', the departures', the arrivals'. -/
abbrev osem : Fin 4 ⊕ (Fin 12 ⊕ Fin 12) → SemLoc sig
  | .inl i => lsem i
  | .inr (.inl e) => .dma (sendS e)
  | .inr (.inr e) => .dma (recvS e)

theorem ownSemFacts : Pipeline.OwnSemFacts cfg0.spec osem := by decide +kernel

/-- A number for each semaphore. -/
def semNum (s : SemLoc sig) : ℕ := match s with | .reg _ => 0 | .dma q => q.val

theorem csem_injective : Function.Injective csem := by
  intro k k' h
  have h := congrArg semNum h
  rcases k with u | e | e <;> rcases k' with u' | e' | e'
  · rfl
  · exact absurd h (show ¬ 0 = 6 + e'.val by omega)
  · exact absurd h (show ¬ 0 = 18 + e'.val by omega)
  · exact absurd h (show ¬ 6 + e.val = 0 by omega)
  · exact congrArg (fun e => Sum.inr (Sum.inl e)) (Fin.ext (Nat.add_left_cancel (show 6 + e.val = 6 + e'.val from h)))
  · exact absurd h (show ¬ 6 + e.val = 18 + e'.val by omega)
  · exact absurd h (show ¬ 18 + e.val = 0 by omega)
  · exact absurd h (show ¬ 18 + e.val = 6 + e'.val by omega)
  · exact congrArg (fun e => Sum.inr (Sum.inr e)) (Fin.ext (Nat.add_left_cancel (show 18 + e.val = 18 + e'.val from h)))

theorem kcell_eq_iff {a b : Dev nD × Cell} : kcell a = kcell b ↔ a = b := by
  refine ⟨fun h => Prod.ext ?_ (csem_injective (congrArg Prod.snd h)), fun h => h ▸ rfl⟩
  exact congrArg (fun g : GSem nD τ sig => g.1.1) h

theorem kcell_injective : Function.Injective kcell := fun _ _ => kcell_eq_iff.mp

def allCells : Finset (GSem nD τ sig) := Finset.univ.map ⟨kcell, kcell_injective⟩

/-! ## The duties -/

/-- The duties of a device's cells: two of its barrier's, one of each other cell. -/
abbrev Duty : Type := Bool ⊕ (Fin 12 ⊕ Fin 12)
abbrev dutyCell : Duty → Cell
  | .inl _ => .inl ()
  | .inr k => .inr k
abbrev dutyBit : Duty → Bool
  | .inl b => b
  | .inr _ => false
abbrev tokOf (cj : Dev nD × Duty) : GSem nD τ sig × ℕ × Bool := (kcell (cj.1, dutyCell cj.2), 0, dutyBit cj.2)

theorem tokOf_injective : Function.Injective tokOf := by
  rintro ⟨c, j⟩ ⟨c', j'⟩ h
  have h1 := kcell_eq_iff.mp (congrArg Prod.fst h)
  have h2 : dutyBit j = dutyBit j' := congrArg (fun x : GSem nD τ sig × ℕ × Bool => x.2.2) h
  have hc : c = c' := congrArg Prod.fst h1
  have hj : dutyCell j = dutyCell j' := congrArg Prod.snd h1
  subst hc
  refine congrArg (Prod.mk c) ?_
  rcases j with b | k <;> rcases j' with b' | k'
  · exact congrArg Sum.inl h2
  · exact absurd hj (by simp)
  · exact absurd hj (by simp)
  · exact congrArg Sum.inr (Sum.inr.inj hj)

def allToks : Finset (GSem nD τ sig × ℕ × Bool) := Finset.univ.map ⟨tokOf, tokOf_injective⟩

/-- What is dealt at the launch. -/
def u₀ : UU :=
  (initOf (Pipeline.cells cfgs cellOf_inj) (Pipeline.launchToks cfgs cellOf_inj), (initOf allCells allToks, (1 : Counters)))

/-- The duties of the device's own cells. -/
def toks (c : Dev nD) : sProp 𝕄 :=
  iprop(dutyTok ER (barCell c) 0 false ∗ dutyTok ER (barCell c) 0 true
    ∗ (bigSep Finset.univ fun e : Fin 12 => dutyTok ER (sendCell c e) 0 false)
    ∗ (bigSep Finset.univ fun e : Fin 12 => dutyTok ER (recvCell c e) 0 false))

/-- The duties the device pays. -/
def payToks (c : Dev nD) : sProp 𝕄 :=
  iprop(dutyTok ER (barCell (p1 c)) 0 false ∗ dutyTok ER (barCell (p2 c)) 0 true
    ∗ (bigSep Finset.univ fun e : Fin 12 => dutyTok ER (sendCell c e) 0 false)
    ∗ (bigSep Finset.univ fun e : Fin 12 => dutyTok ER (recvCell (peer e c) e) 0 false))

omit [FloatOps F] in
/-- Every duty goes to the device that pays it. -/
theorem toks_around : (bigSep Finset.univ fun c : Dev nD => (toks c : sProp 𝕄)) ⊢ bigSep Finset.univ fun c : Dev nD => payToks c := by
  have hr : (bigSep Finset.univ fun c : Dev nD => bigSep Finset.univ fun e : Fin 12 => (dutyTok ER (recvCell c e) 0 false : sProp 𝕄))
      = bigSep Finset.univ fun c : Dev nD => bigSep Finset.univ fun e : Fin 12 => dutyTok ER (recvCell (peer e c) e) 0 false := by
    rw [BI.bigSep_univ_comm, BI.bigSep_univ_comm (fun (c : Dev nD) (e : Fin 12) => (dutyTok ER (recvCell (peer e c) e) 0 false : sProp 𝕄))]
    exact bigSep_congr fun e _ =>
      BI.bigSep_univ_equiv ⟨peer e, peer e, peer_peer e, peer_peer e⟩ (fun c : Dev nD => (dutyTok ER (recvCell c e) 0 false : sProp 𝕄))
  unfold toks payToks
  rw [bigSep_sep', bigSep_sep', bigSep_sep', bigSep_sep', bigSep_sep', bigSep_sep', hr,
    BI.bigSep_univ_equiv ⟨p1, p1, p1_p1, p1_p1⟩ (fun c : Dev nD => (dutyTok ER (barCell c) 0 false : sProp 𝕄)),
    BI.bigSep_univ_equiv ⟨p2, p2, p2_p2, p2_p2⟩ (fun c : Dev nD => (dutyTok ER (barCell c) 0 true : sProp 𝕄))]
  exact BI.Entails.refl _

/-! ## The launch's ghost state -/

def G (c : Dev nD) : sProp 𝕄 :=
  iprop((bigSep Finset.univ fun k : Cell => roundState ER (rd I) (kcell (c, k)) 0)
    ∗ (bigSep Finset.univ fun k : Cell => iprop(atPos ER (kcell (c, k)) 0 ∅ 0 ∗ reached ER (kcell (c, k)) 0)) ∗ toks c)

/-- The places at the device's own cells. -/
def places (c : Dev nD) : sProp 𝕄 := bigSep Finset.univ fun k : Cell => atPos ER (kcell (c, k)) 0 ∅ 0

/-- The invariants, and that all cells are at their round. -/
def records (K : Dev nD × Cell → ℕ) : sProp 𝕄 :=
  iprop((bigSep Finset.univ fun ck : Dev nD × Cell => cellInv ER (rd I) (K ck) (kcell ck))
    ∗ bigSep Finset.univ fun ck : Dev nD × Cell => reached ER (kcell ck) 0)

instance records_persistent (K : Dev nD × Cell → ℕ) : BI.Persistent (records I K) := by unfold records; infer_instance

def G' (c : Dev nD) : sProp 𝕄 :=
  iprop((∃ K, records I K) ∗ WSems (F := F) c ∗ places (F := F) c ∗ payToks c)

theorem fund_cells : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun k : Cell => Φ (kcell (c, k)) := by
    unfold allCells; rw [bigSep_map, BI.bigSep_univ_prod]; rfl
  have hT : bigSep allToks (fun x => (dutyTok ER x.1 x.2.1 x.2.2 : sProp 𝕄)) = bigSep Finset.univ fun c : Dev nD => toks c := by
    unfold allToks; rw [bigSep_map, BI.bigSep_univ_prod]
    refine bigSep_congr fun c _ => ?_
    unfold toks
    rw [BI.bigSep_univ_sum, BI.bigSep_univ_sum, bigSep_univ_eq_bigSepL [false, true] (by decide) (by decide), bigSepL_cons_cons, bigSepL_singleton]
    exact equiv_iff.mp ⟨BI.sep_assoc, BI.sep_assoc'⟩
  iintro HX
  imod (Rounds.fund ER (rd I) allCells allToks) $$ HX with ⟨Hst, Hr, Hat, Htok⟩
  imodintro
  ihave Hst := (Entails.of_eq (hX fun g => roundState ER (rd I) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
theorem ownSems0_eq (c : Dev nD) : (Pipeline.ownSems0 (Ix := Unit) (Name := ℕ) (U := UU) (Lvl := ℕ) (Val := Elt F) (τ := τ) osem c : sProp 𝕄)
    = iprop(WSems (F := F) c ∗ MSems (F := F) c) := by
  unfold Pipeline.ownSems0 WSems MSems
  rw [BI.bigSep_univ_sum, BI.bigSep_univ_sum, bigSep_univ_eq_bigSepL [0, 1, 2, 3] (by decide) (by decide)]
  rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A sum over a device's cells, kind by kind. -/
theorem bigSep_cell (Φ : Cell → sProp 𝕄) :
    bigSep Finset.univ Φ = iprop(Φ (.inl ()) ∗ (bigSep Finset.univ fun e : Fin 12 => Φ (.inr (.inl e))) ∗ bigSep Finset.univ fun e : Fin 12 => Φ (.inr (.inr e))) := by
  rw [BI.bigSep_univ_sum, BI.bigSep_univ_sum, bigSep_univ_eq_bigSepL [()] (by decide) (by decide), bigSepL_singleton]
  rfl

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (rd I) κ (kcell (c, k))))
          ∗ (bigSep Finset.univ fun k : Cell => (reached ER (kcell (c, k)) 0 : sProp 𝕄)) ∗ iprop(WSems (F := F) c ∗ places (F := F) c ∗ toks c)) := by
  unfold G places
  rw [ownSems0_eq, unscopedSems0_eq, bigSep_sep']
  unfold MSems
  iintro ⟨⟨HW, HS, HR⟩, HB, Hst, ⟨Hat, Hre⟩, Htok⟩
  imod (show iprop((bigSep Finset.univ fun k : Cell => semVal (kcell (c, k)) 0) ∗ bigSep Finset.univ fun k : Cell => roundState ER (rd I) (kcell (c, k)) 0)
      ⊢ (|={Set.univ}=> bigSep Finset.univ fun k => iprop(∃ κ : ℕ, cellInv ER (rd I) κ (kcell (c, k))) : sProp 𝕄) from by
        rw [← bigSep_sep']
        exact (bigSep_mono fun k _ => (Rounds.body_intro ER (rd I) (kcell (c, k))).trans inv_alloc).trans (bigSep_fupd _ _)) $$ [HS HR HB Hst] with Hinv
  · isplitl [HS HR HB]
    · rw [bigSep_cell]
      isplitl [HB]; · iexact HB
      isplitl [HS] <;> iassumption
    iexact Hst
  imodintro
  isplitl [Hinv]; · iexact Hinv
  isplitl [Hre]; · iexact Hre
  isplitl [HW]; · iexact HW
  isplitl [Hat] <;> iassumption

theorem regroup :
    (bigSep Finset.univ fun c : Dev nD => iprop((bigSep Finset.univ fun k => iprop(∃ κ : ℕ, cellInv ER (rd I) κ (kcell (c, k))))
          ∗ (bigSep Finset.univ fun k : Cell => (reached ER (kcell (c, k)) 0 : sProp 𝕄)) ∗ iprop(WSems (F := F) c ∗ places (F := F) c ∗ toks c)) : sProp 𝕄)
      ⊢ bigSep Finset.univ (G' I) := by
  rw [bigSep_sep', bigSep_sep', bigSep_sep', bigSep_sep',
    ← BI.bigSep_univ_prod (fun ck : Dev nD × Cell => iprop(∃ κ : ℕ, cellInv ER (rd I) κ (kcell ck))),
    ← BI.bigSep_univ_prod (fun ck : Dev nD × Cell => (reached ER (kcell ck) 0 : sProp 𝕄))]
  iintro ⟨HI, #HR, HW, Hat, Htok⟩
  ihave HK := (BI.bigSep_exists_pi Finset.univ (fun (ck : Dev nD × Cell) (κ : ℕ) => (cellInv ER (rd I) κ (kcell ck) : sProp 𝕄))) $$ HI
  icases HK with ⟨%K, #HI⟩
  ihave Htk := (toks_around (F := F)) $$ Htok
  have hone : ∀ c ∈ (Finset.univ : Finset (Dev nD)), iprop(records I K ∗ iprop(WSems (F := F) c ∗ places (F := F) c ∗ payToks c)) ⊢ G' I c := fun c _ => by
    unfold G'
    iintro ⟨HR, H⟩
    isplitl [HR]; · iexists K; iexact HR
    iexact H
  iapply (bigSep_with_persistent (R := records I K) hone)
  isplitr
  · unfold records; isplitl; · iexact HI
    iexact HR
  rw [bigSep_sep', bigSep_sep']
  isplitl [HW]; · iexact HW
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The launch's credit -/

theorem p1_eq_iff {c d : Dev nD} : c = p1 d ↔ d = p1 c := ⟨fun h => by rw [h, p1_p1], fun h => by rw [h, p1_p1]⟩
theorem p2_eq_iff {c d : Dev nD} : c = p2 d ↔ d = p2 c := ⟨fun h => by rw [h, p2_p2], fun h => by rw [h, p2_p2]⟩
theorem peer_eq_iff {e : Fin 12} {c d : Dev nD} : c = peer e d ↔ d = peer e c := ⟨fun h => by rw [h, peer_peer], fun h => by rw [h, peer_peer]⟩

theorem bar_eq_iff {a b : Dev nD} : barCell a = barCell b ↔ a = b :=
  (kcell_eq_iff (a := (a, .inl ())) (b := (b, .inl ()))).trans ⟨fun h => congrArg Prod.fst h, fun h => h ▸ rfl⟩
theorem recv_ne_bar {a b : Dev nD} {e : Fin 12} : recvCell a e ≠ barCell b := fun h => by
  have := (kcell_eq_iff (a := (a, .inr (.inr e))) (b := (b, .inl ()))).mp h
  exact absurd (congrArg Prod.snd this) (by simp)
theorem recv_eq_iff {a b : Dev nD} {e e' : Fin 12} : recvCell a e = recvCell b e' ↔ a = b ∧ e = e' :=
  (kcell_eq_iff (a := (a, .inr (.inr e))) (b := (b, .inr (.inr e')))).trans (by simp)

/-- The credit of one cell as a number. -/
theorem tally_val (g g' : GSem nD τ sig) (n : ℕ) : (tallyAt g () n : CellTallies nD τ sig Unit) g' () = if g' = g then n else 0 := by
  rw [tallyAt_apply]
  by_cases h : g' = g
  · rw [if_pos ⟨h, rfl⟩, if_pos h]
  · rw [if_neg (fun h' => h h'.1), if_neg h]

theorem orem_val (d : Dev nD) (g : GSem nD τ sig) :
    Orem 0 d g () = ∑ e : Fin 12, if g = recvCell (peer e d) e then N else 0 := by
  unfold Orem
  rw [Finset.sum_apply, Finsupp.finset_sum_apply, Finset.filter_true_of_mem fun e _ => Nat.zero_le _]
  exact Finset.sum_congr rfl fun e _ => tally_val _ _ _

theorem o0_val (d : Dev nD) (g : GSem nD τ sig) :
    O₀ d g () = (∑ e : Fin 12, if g = recvCell (peer e d) e then N else 0) + (if g = barCell (p2 d) then 1 else 0) + (if g = barCell (p1 d) then 1 else 0) := by
  unfold O₀ O₁
  rw [Pi.add_apply, Finsupp.add_apply, Pi.add_apply, Finsupp.add_apply, orem_val, tally_val, tally_val]

theorem owed_bar (d c : Dev nD) : O₀ d (barCell c) () = (if d = p2 c then 1 else 0) + (if d = p1 c then 1 else 0) := by
  rw [o0_val, Finset.sum_eq_zero fun e _ => if_neg fun h => recv_ne_bar h.symm, Nat.zero_add]
  simp only [bar_eq_iff, p1_eq_iff (c := c), p2_eq_iff (c := c)]

theorem owed_recv (d c : Dev nD) (e : Fin 12) : O₀ d (recvCell c e) () = if d = peer e c then N else 0 := by
  rw [o0_val, if_neg recv_ne_bar, if_neg recv_ne_bar, Nat.add_zero,
    Finset.sum_eq_single e (fun e' _ h => if_neg fun h' => h (recv_eq_iff.mp h').2.symm) (fun h => absurd (Finset.mem_univ e) h)]
  simp only [recv_eq_iff, and_true, peer_eq_iff (c := c)]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (p2 c) fun _ => 1, Finset.sum_ite_eq' Finset.univ (p1 c) fun _ => 1, if_pos (Finset.mem_univ _), if_pos (Finset.mem_univ _)]

theorem launch_recv (c : Dev nD) (e : Fin 12) :
    tallyOn (recvCell c e) (launchCredit (Pipeline.owing O₀) 0 (recvCell c e)) = (tallyAt (recvCell c e) () N : CellTallies nD τ sig Unit) := by
  unfold tallyAt; refine congrArg _ (Finsupp.ext fun u => ?_); cases u
  rw [Pipeline.launchCredit_owing, Finsupp.single_eq_same, Finset.sum_congr rfl fun d _ => owed_recv d c e,
    Finset.sum_ite_eq' Finset.univ (peer e c) fun _ => N, if_pos (Finset.mem_univ _)]

omit [FloatOps F] in
/-- What the launch credits a device: its barrier's two units, and its twelve messages. -/
theorem creds (c : Dev nD) :
    (Pipeline.launchCred O₀ c : sProp 𝕄)
      ⊢ iprop(cred (tallyAt (barCell c) () 2) ∗ bigSep Finset.univ fun e : Fin 12 => cred (tallyAt (recvCell c e) () N)) := by
  unfold Pipeline.launchCred
  refine (BI.bigSep_subset (Finset.subset_univ (Finset.univ.map ⟨csem, csem_injective⟩))).trans ?_
  rw [bigSep_map, bigSep_cell]
  refine BIClass.sep_mono (Entails.of_eq (congrArg cred (launch_bar c))) ?_
  iintro ⟨-, H⟩
  iapply (Entails.of_eq (bigSep_congr fun e _ => congrArg cred (launch_recv c e)))
  iexact H

/-! ## What enters and leaves the region -/

section Launch

variable (m : (ℓ : Loc nD τ sig) → Buf (Elt F) ℓ) (ρ : Dev nD → PrngReg)

theorem share_eq (c : Dev nD) (w : Fin cfg0.W) : (dats m ρ 0 c).share w = fullShare := by unfold Dat.share; split <;> rfl

/-- The weights' arrays as memory holds them. -/
theorem args_eq (c : Dev nD) :
    (Args (ins m) c : sProp 𝕄)
      = iprop((((c : Thread nD τ).loc main_arg1) ↦{fullShare} m ((c : Thread nD τ).loc main_arg1)) ∗ (((c : Thread nD τ).loc main_arg2) ↦{fullShare} m ((c : Thread nD τ).loc main_arg2))
        ∗ (((c : Thread nD τ).loc main_arg3) ↦{fullShare} m ((c : Thread nD τ).loc main_arg3)) ∗ (((c : Thread nD τ).loc main_arg4) ↦{fullShare} m ((c : Thread nD τ).loc main_arg4))
        ∗ (((c : Thread nD τ).loc main_arg5) ↦{fullShare} m ((c : Thread nD τ).loc main_arg5)) ∗ (((c : Thread nD τ).loc main_arg6) ↦{fullShare} m ((c : Thread nD τ).loc main_arg6))) := by
  have h (b : Ref sig .tc) (X : b.ty.Contents (Elt F)) :
      (owns (Ix := Unit) (Name := ℕ) (U := UU) (Lvl := ℕ) (c : Thread nD τ) (Memref.whole b) fullShare X : sProp 𝕄) = ((c : Thread nD τ).loc b ↦{fullShare} X) := by
    rw [owns_whole_eq]
    have h1 : iprop(∃ f : Buf (Elt F) ((c : Thread nD τ).loc b), ⌜f = X⌝ ∗ ((c : Thread nD τ).loc b ↦{fullShare} f)) ⊢ ((c : Thread nD τ).loc b ↦{fullShare} X : sProp 𝕄) := by
      iintro ⟨%f, %hf, H⟩
      subst hf
      iexact H
    have h2 : ((c : Thread nD τ).loc b ↦{fullShare} X : sProp 𝕄) ⊢ iprop(∃ f : Buf (Elt F) ((c : Thread nD τ).loc b), ⌜f = X⌝ ∗ ((c : Thread nD τ).loc b ↦{fullShare} f)) := by
      iintro H
      iexists X
      isplitr; · (ipureintro; rfl)
      iexact H
    exact equiv_iff.mp ⟨h1, h2⟩
  unfold Args
  rw [h main_arg1, h main_arg2, h main_arg3, h main_arg4, h main_arg5, h main_arg6]
  rfl

omit [FloatOps F] in
/-- The tokens of the messages, gathered. -/
theorem msgs_intro (c : Dev nD) :
    iprop((bigSep Finset.univ fun e : Fin 12 => dutyTok ER (sendCell c e) 0 false) ∗ (bigSep Finset.univ fun e : Fin 12 => dutyTok ER (recvCell (peer e c) e) 0 false)
      ∗ (bigSep Finset.univ fun e : Fin 12 => atPos ER (sendCell c e) 0 ∅ 0) ∗ (bigSep Finset.univ fun e : Fin 12 => atPos ER (recvCell c e) 0 ∅ 0)
      ∗ bigSep Finset.univ fun e : Fin 12 => cred (tallyAt (recvCell c e) () N)) ⊢ (Msgs c : sProp 𝕄) := by
  unfold Msgs
  rw [bigSep_sep', bigSep_sep', bigSep_sep', bigSep_sep']

/-- What the body starts from, but for the scratch buffers. -/
def start (c : Dev nD) : sProp 𝕄 :=
  iprop((∃ K, ctx (ins m) K) ∗ BarToks (F := F) c ∗ Msgs (F := F) c ∗ WSems (F := F) c ∗ Args (ins m) c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (ins m) c)
      ⊢ |={Set.univ}=> iprop(start m c ∗ emp) := by
  rw [Pipeline.unscopedRestP_none, unscopedRest0_eq, ← args_eq]
  unfold G' places payToks records
  rw [bigSep_cell]
  iintro ⟨HA, #Hlev, Hcr, -, ⟨%K, #HI, #HR⟩, HW, ⟨HaB, HaS, HaR⟩, T1, T2, TS, TR⟩
  ihave Hc := (creds (F := F) c) $$ Hcr
  icases Hc with ⟨H2, HN⟩
  imodintro
  unfold start ctx BarToks
  isplitl
  · isplitr
    · iexists K
      isplitr; · iexact HI
      isplitr; · iexact HR
      iexact Hlev
    isplitl [T1 T2 H2 HaB]
    · isplitl [T1]; · iexact T1
      isplitl [T2]; · iexact T2
      isplitl [H2] <;> iassumption
    isplitl [TS TR HaS HaR HN]
    · iapply (msgs_intro c)
      isplitl [TS]; · iexact TS
      isplitl [TR]; · iexact TR
      isplitl [HaS]; · iexact HaS
      isplitl [HaR] <;> iassumption
    isplitl [HW] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (ins m) c from rfl, scopedRest0_eq]
  unfold Φ₀ start Scratch
  iintro ⟨⟨HC, HB, HM, HW, HA⟩, -, HS⟩
  isplitl [HC]; · iexact HC
  isplitl [HB]; · iexact HB
  isplitl [HM]; · iexact HM
  isplitl [HW]; · iexact HW
  isplitl [HA] <;> iassumption

theorem phi1_exit (c : Dev nD) :
    (dats m ρ 0 c).Φ (Fin.last cfg0.N) ⊢ iprop(iprop(unscopedSems0 c ∗ Args (ins m) c) ∗ Pipeline.ownSems0 osem c ∗ Pipeline.scopedRest cfg0.spec c) := by
  rw [show (dats m ρ 0 c).Φ (Fin.last cfg0.N) = Φ₁ (ins m) c from rfl, scopedRest0_eq, ownSems0_eq, unscopedSems0_eq]
  unfold Φ₁ Scratch
  iintro ⟨HA, HS, HW, HM, HB⟩
  isplitl [HB HA]
  · isplitl [HB] <;> iassumption
  isplitl [HW HM]
  · isplitl [HW] <;> iassumption
  iexact HS

theorem waits (c : Dev nD) : (levAts L lv : sProp 𝕄) ⊢ Pipeline.cellsWaits cfgs (dats m ρ) () 0 c :=
  Pipeline.cellsWaits_intro cfgs (dats m ρ) () 0 c fun w s t =>
    mayWait_local c _ (by fin_cases w <;> fin_cases s <;> decide) _ (by
      rcases t with ⟨_ | _, ht⟩
      · exact Or.inl rfl
      · exact Or.inr rfl)

/-! ## The run -/

/-- The arrays no window stages, unchanged on device `c`. -/
def ArgsKept (c : Dev nD) (s : MemSt nD τ sig (Elt F)) : Prop :=
  s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)

omit [FloatOps F] in
/-- A buffer held whole is what memory holds. -/
theorem buf_read (c : Dev nD) (b : Ref sig .tc) (X : Buf (Elt F) ((c : Thread nD τ).loc b)) (s' : Phys nD τ sig (Elt F)) :
    (iprop(((c : Thread nD τ).loc b ↦{fullShare} X) ∗ SI s') : sProp 𝕄) ⊢ <pers> ⌜s'.mem.mem ((c : Thread nD τ).loc b) = X⌝ :=
  ((sep_comm.1.trans SI_pointsTo_agree).trans (BI.pure_mono fun h => Buf.eq_of_forall_mem_univ h)).trans Laws.persistently_pure.2

/-- The weights' arrays end as they were. -/
theorem args_read (c : Dev nD) (s' : Phys nD τ sig (Elt F)) :
    iprop(Args (ins m) c ∗ SI s') ⊢ (iprop(⌜ArgsKept m c s'.mem⌝ ∗ SI s') : sProp 𝕄) := by
  rw [args_eq]
  iintro ⟨⟨H1, H2, H3, H4, H5, H6⟩, HSI⟩
  ihave %h1 := (buf_read c main_arg1 _ s') $$ [H1 HSI]
  · isplitl [H1] <;> iassumption
  ihave %h2 := (buf_read c main_arg2 _ s') $$ [H2 HSI]
  · isplitl [H2] <;> iassumption
  ihave %h3 := (buf_read c main_arg3 _ s') $$ [H3 HSI]
  · isplitl [H3] <;> iassumption
  ihave %h4 := (buf_read c main_arg4 _ s') $$ [H4 HSI]
  · isplitl [H4] <;> iassumption
  ihave %h5 := (buf_read c main_arg5 _ s') $$ [H5 HSI]
  · isplitl [H5] <;> iassumption
  ihave %h6 := (buf_read c main_arg6 _ s') $$ [H6 HSI]
  · isplitl [H6] <;> iassumption
  isplitr
  · ipureintro; exact ⟨h1, h2, h3, h4, h5, h6⟩
  iexact HSI

def finalA (c : Dev nD) (w : Fin cfg0.W) : Buf (Elt F) ((cfg0.win w).arr.view.loc (c : Thread nD τ)) := (dats m ρ 0 c).arrAt w cfg0.N

/-- What the staged arrays hold at the end. -/
def QC (r : PUnit × MemSt nD τ sig (Elt F)) : Prop :=
  ∀ c : Dev nD, (∀ w : Fin cfg0.W, r.2.mem ((cfg0.win w).arr.view.loc (c : Thread nD τ)) = finalA m ρ c w) ∧ ArgsKept m c r.2

set_option maxRecDepth 8000 in
set_option maxHeartbeats 1000000 in
/-- From any memory with zero counters, every fair execution ends, with the arrays at their final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (ins m)) (G' := G' (ins m)) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      ihave HX := (show BI.own (((Emb.inl : Emb UX (UX × Counters)).trans embR) (initOf allCells allToks)) ⊢ (BI.own (ER (initOf allCells allToks)) : sProp 𝕄) from BI.Entails.refl _) $$ HX
      imod (fund_cells (ins m)) $$ HX with HG
      imodintro
      isplitl [HP] <;> iassumption)
    (hglob := glob (ins m))
    (hA := fun _ _ => rfl) (hpf := fun _ k => k.elim0)
    (X := start m) (Y := fun c => iprop(unscopedSems0 c ∗ Args (ins m) c)) (Z := fun _ => iprop(emp))
    (hX := start_intro m ρ) (hin := phi0_intro m ρ) (hout := phi1_exit m ρ)
    (QY := fun c s => ArgsKept m c s ∧ ∀ sm : SemLoc sig, sm.isScoped .tc = false → s.sem ((c.tc : Thread nD τ), sm) = 0)
    (hY := fun c s' => by
      iintro ⟨⟨Hu, HA⟩, -, HSI⟩
      ihave HA := (args_read m c s') $$ [HA HSI]
      · isplitl [HA] <;> iassumption
      icases HA with ⟨%hA, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hA, hs⟩
      iexact HSI)
    (hQ := fun _ h hs => ⟨fun c => ⟨fun w => (h c).1 w, (h c).2.2.1⟩, sem_eq_zero hs fun c => (h c).2.2.2⟩)

/-- The activations' array ends as it was. -/
theorem finalA_x (c : Dev nD) : finalA m ρ c (0 : Fin 2) = m ((c : Thread nD τ).loc main_arg0) :=
  (dats (F := F) m ρ 0 c).arrAt_in (0 : Fin 2) rfl _

/-- The activations are the whole array. -/
theorem ins_x (c : Dev nD) : (ins m c).x = m ((c : Thread nD τ).loc main_arg0) := by
  have hz : (fun a => (win0_0.index (0 : Fin 1)) a * main_arg0.ty.shape.size a) = fun _ => 0 := funext fun a => Nat.zero_mul _
  exact Memref.read_access_unit_zero (Elt F) main_arg0 hz (fun a => by fin_cases a <;> decide) _

/-- The result's array ends holding what the body left. -/
theorem finalA_o (c : Dev nD) : finalA m ρ c (1 : Fin 2) = outAt (ins m) c := by
  have hz : (fun a => (win0_1.index (0 : Fin 1)) a * main_v1.ty.shape.size a) = fun _ => 0 := funext fun a => Nat.zero_mul _
  have hr := fun f => Memref.read_access_unit_zero (Elt F) main_v1 hz (fun a => by fin_cases a <;> decide) f
  have h : (win0_1.blk (0 : Fin 1)).view.read (Elt F) (finalA m ρ c (1 : Fin 2)) = outAt (ins m) c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from flush0_1 _, if_pos rfl]
    exact View.read_write_univ _ _
  exact (hr _).symm.trans h

/-- Every fair execution ends; on every device the result is what the body computes, the arguments are unchanged, and every counter is zero. -/
theorem run : θ_run defs (onTc (τ := τ) (main (F := F))) ⟨m, fun _ => 0, ρ⟩ (fun r => (∀ c : Dev nD,
      r.2.mem ((c : Thread nD τ).loc main_v1) = outAt (ins m) c
      ∧ r.2.mem ((c : Thread nD τ).loc main_arg0) = m ((c : Thread nD τ).loc main_arg0)
      ∧ ArgsKept m c r.2) ∧ r.2.sem = fun _ => 0) :=
  (θ_run defs _ _).mono (fun _ h => ⟨fun c => ⟨((h.1 c).1 (1 : Fin 2)).trans (finalA_o m ρ c),
    ((h.1 c).1 (0 : Fin 2)).trans (finalA_x m ρ c), (h.1 c).2⟩, h.2⟩) (run_main m ρ)

end Launch

end Cert.KernelIdealProof

end
-- ==== Proof.Frames.lean ====
/-
# The frames

Every program ends with its arguments unchanged and every semaphore counter at zero.
-/
module

public import proofs.«01_k».proof.Defs
public import proofs.«01_k».proof.Proof.KernelRun
public import proofs.«01_k».proof.Proof.KernelIdealRun
public import proofs.«01_k».proof.Proof.Gen.ReferenceIdeal.Run

@[expose] public section

set_option maxRecDepth 16384

noncomputable section

namespace Cert.Proof

open Idealize.ShloMosaic Idealize.SL.Sem

/-- The kernel ends with its arguments unchanged and every counter at zero. -/
theorem frame_p : Cert.quiescent_Kernel := by
  intro m g _
  exact (θ_run Cert.Kernel.defs _ _).mono (fun _ h => ⟨fun c => ⟨(h.1 c).2.1, (h.1 c).2.2⟩, h.2⟩) (Cert.KernelProof.run (F := Bits) m g)

/-- So does its idealization. -/
theorem frame_pi : Cert.quiescent_KernelIdeal := by
  intro m g _
  exact (θ_run Cert.KernelIdeal.defs _ _).mono (fun _ h => ⟨fun c => ⟨(h.1 c).2.1, (h.1 c).2.2⟩, h.2⟩) (Cert.KernelIdealProof.run (F := Ideal) m g)

/-- So does the reference. -/
theorem frame_r : Cert.quiescent_ReferenceIdeal := by
  intro m g _
  exact (θ_run Cert.ReferenceIdeal.defs _ _).mono (fun r h => ⟨fun c => (h c).2, Idealize.ShloMosaic.sem_eq_zero_of_no_sems (by decide) r.2⟩)
    (Cert.ReferenceIdeal.Value.run (F := Ideal) m g)

end Cert.Proof

end
-- ==== Proof.Products.lean ====
/-
# The layers' operations over the extended reals

What the body's operations compute, read at an index: the hidden activations, a device's own product, the exchange of a
sum, and the next layer's hidden activations from the two halves. The three layers use the same operations, so each is
read once.
-/
module

public import proofs.«01_k».proof.Proof.KernelIdealContents
public import Idealize.ShloMosaic.Lib.ValueIdx
public import Idealize.ShloMosaic.Lib.Pipeline.Value
public import Idealize.ShloMosaic.Lib.ValueLayout
public import Idealize.ShloMosaic.Lib.MatmulPlain
public import Idealize.ShloMosaic.Lib.Layout

@[expose] public section

set_option maxRecDepth 16384

noncomputable section

namespace Cert.Proof

open Cert.KernelIdeal Cert.KernelIdeal.Gen Cert.KernelIdealProof
open Idealize.ShloMosaic

/-- A column of the first half … -/
def lo (j : Fin 512) : Fin 1024 := ⟨j.val, by omega⟩
/-- … and one of the second. -/
def hi (j : Fin 512) : Fin 1024 := ⟨512 + j.val, by omega⟩

/-- The positive part of a product's entry: row `i` of `x` times column `k` of `w`. -/
def reluDot {n h : ℕ} (x : Fin 64 → Fin n → EReal) (w : Fin n → Fin h → EReal) (i : Fin 64) (k : Fin h) : EReal :=
  max (∑ j : Fin n, x i j * w j k) 0

/-- A product's entry. -/
def dot {n h : ℕ} (x : Fin 64 → Fin n → EReal) (w : Fin n → Fin h → EReal) (i : Fin 64) (k : Fin h) : EReal :=
  ∑ j : Fin n, x i j * w j k

/-- An array of two axes as a function of its two coordinates. -/
def at2 {a b : ℕ} (v : (⟨2, ![a, b]⟩ : Shape).Idx → EReal) (i : Fin a) (j : Fin b) : EReal := v (ValueIdx.ix2 i j)

/-- The word of zero is zero. -/
theorem zero_word : Ideal.ofBits .f32 0x00000000#32 = 0 := by simp [Ideal.ofBits, Ideal.ieee]

/-- A product of a 64-row matrix with accumulator zero, at an index. -/
theorem matmul_apply {K N : ℕ} {φ₁ φ₂ : FTy} (d : DotDims ⟨2, ![64, K]⟩ ⟨2, ![K, N]⟩ ⟨2, ![64, N]⟩) (hd : d = DotDims.plain 64 K N)
    (l : FVec Ideal ⟨2, ![64, K]⟩ φ₁) (r : FVec Ideal ⟨2, ![K, N]⟩ φ₂) (i : Fin 64) (j : Fin N) :
    matmul d none l r (constant (F := Ideal) ⟨2, ![64, N]⟩ .f32 0x00000000#32) (ValueIdx.ix2 i j) = ∑ k : Fin K, l (ValueIdx.ix2 i k) * r (ValueIdx.ix2 k j) := by
  subst hd
  refine (Ideal.matmul_plain_apply none l r _ i j).trans ?_
  rw [ValueIdx.constant_apply, zero_word, zero_add]

/-- The same of the three shapes of product in the body. -/
theorem mm_first (l : FVec Ideal S64x1024 .bf16) (r : FVec Ideal S1024x2048 .bf16) (i : Fin 64) (j : Fin 2048) :
    matmul dot_S64x1024_S1024x2048_S64x2048_1_0_0_1_n_n none l r (constant (F := Ideal) S64x2048 .f32 0x00000000#32) (ValueIdx.ix2 i j)
      = ∑ k : Fin 1024, l (ValueIdx.ix2 i k) * r (ValueIdx.ix2 k j) := matmul_apply _ rfl l r i j
theorem mm_own (l : FVec Ideal S64x2048 .bf16) (r : FVec Ideal S2048x512 .bf16) (i : Fin 64) (j : Fin 512) :
    matmul dot_S64x2048_S2048x512_S64x512_1_0_0_1_n_n none l r (constant (F := Ideal) S64x512 .f32 0x00000000#32) (ValueIdx.ix2 i j)
      = ∑ k : Fin 2048, l (ValueIdx.ix2 i k) * r (ValueIdx.ix2 k j) := matmul_apply _ rfl l r i j
theorem mm_half (l : FVec Ideal S64x512 .bf16) (r : FVec Ideal S512x2048 .bf16) (i : Fin 64) (j : Fin 2048) :
    matmul dot_S64x512_S512x2048_S64x2048_1_0_0_1_n_n none l r (constant (F := Ideal) S64x2048 .f32 0x00000000#32) (ValueIdx.ix2 i j)
      = ∑ k : Fin 512, l (ValueIdx.ix2 i k) * r (ValueIdx.ix2 k j) := matmul_apply _ rfl l r i j

/-! ## The operations -/

/-- A weight block, put into its slot and taken out, is itself. -/
theorem w_back (w : Vec Ideal S1024x2048 .f32) (i : Fin 1024) (k : Fin 2048) :
    shapeCast S1024x2048 (inW w) shapeCasts_S1x1024x2048_S1024x2048 (ValueIdx.ix2 i k) = w (ValueIdx.ix2 i k) :=
  (ValueIdx.shapeCast_1ab_ab_apply _ _ i k).trans (ValueIdx.shapeCast_ab_1ab_apply _ _ 0 i k)
theorem u_back (u : Vec Ideal S2048x1024 .f32) (i : Fin 2048) (k : Fin 1024) :
    shapeCast S2048x1024 (inU u) shapeCasts_S1x2048x1024_S2048x1024 (ValueIdx.ix2 i k) = u (ValueIdx.ix2 i k) :=
  (ValueIdx.shapeCast_1ab_ab_apply _ _ i k).trans (ValueIdx.shapeCast_ab_1ab_apply _ _ 0 i k)

/-- The hidden activations of the first layer. -/
theorem first_apply (x : Vec Ideal S64x1024 .f32) (w : Vec Ideal S1024x2048 .f32) (i : Fin 64) (k : Fin 2048) :
    k0_pay1 (F := Ideal) x (inW w) (ValueIdx.ix2 i k) = reluDot (at2 x) (at2 w) i k := by
  unfold k0_pay1 reluDot at2
  rw [ValueIdx.truncf_apply, ValueIdx.maximumf_apply, mm_first]
  refine congrArg₂ max (Finset.sum_congr rfl fun j _ => ?_) zero_word
  rw [ValueIdx.truncf_apply, ValueIdx.truncf_apply, w_back, shapeCast_self]

/-- The own product of a device, columns 0 to 511. -/
def low (h : FVec Ideal S64x2048 .bf16) (u : Vec Ideal S2048x1024 .f32) : FVec Ideal S64x512 .f32 := k0_pay28 h (k0_pay27 (inU u))
/-- The own product of a device, columns 512 to 1023. -/
def high (h : FVec Ideal S64x2048 .bf16) (u : Vec Ideal S2048x1024 .f32) : FVec Ideal S64x512 .f32 := k0_pay30 h (k0_pay26 (inU u))
/-- A half as it is sent. -/
def msg (v : FVec Ideal S64x512 .f32) : FVec Ideal S1x64x512 .bf16 := k0_pay20 v
/-- A half with a received half added. -/
def plus (v : FVec Ideal S64x512 .f32) (p : FVec Ideal S1x64x512 .bf16) : FVec Ideal S64x512 .f32 := k0_pay7 v p
/-- The hidden activations of a later layer from the halves held and the halves received. -/
def next (s t : FVec Ideal S64x512 .f32) (w : Vec Ideal S1024x2048 .f32) (p q : FVec Ideal S1x64x512 .bf16) : FVec Ideal S64x2048 .bf16 :=
  k0_pay25 s t (k0_pay24 (inW w)) p q

theorem low_apply (h : FVec Ideal S64x2048 .bf16) (u : Vec Ideal S2048x1024 .f32) (i : Fin 64) (j : Fin 512) :
    low h u (ValueIdx.ix2 i j) = dot (at2 h) (at2 u) i (lo j) := by
  unfold low k0_pay28 k0_pay27 k0_pay26 dot at2
  rw [mm_own]
  refine Finset.sum_congr rfl fun k _ => congrArg (h (ValueIdx.ix2 i k) * ·) ?_
  refine Eq.trans ?_ (u_back u k (lo j))
  exact congrArg (shapeCast S2048x1024 (inU u) shapeCasts_S1x2048x1024_S2048x1024) (funext fun a => by
    match a with
    | ⟨0, _⟩ => exact Fin.ext (Nat.zero_add _)
    | ⟨1, _⟩ => exact Fin.ext (Nat.zero_add _))

theorem high_apply (h : FVec Ideal S64x2048 .bf16) (u : Vec Ideal S2048x1024 .f32) (i : Fin 64) (j : Fin 512) :
    high h u (ValueIdx.ix2 i j) = dot (at2 h) (at2 u) i (hi j) := by
  unfold high k0_pay30 k0_pay26 dot at2
  rw [mm_own]
  refine Finset.sum_congr rfl fun k _ => congrArg (h (ValueIdx.ix2 i k) * ·) ?_
  refine Eq.trans ?_ (u_back u k (hi j))
  exact congrArg (shapeCast S2048x1024 (inU u) shapeCasts_S1x2048x1024_S2048x1024) (funext fun a => by
    match a with
    | ⟨0, _⟩ => exact Fin.ext (Nat.zero_add _)
    | ⟨1, _⟩ => rfl)

/-- What is received is what was sent. -/
theorem msg_back (v : FVec Ideal S64x512 .f32) (i : Fin 64) (j : Fin 512) :
    shapeCast S64x512 (msg v) shapeCasts_S1x64x512_S64x512 (ValueIdx.ix2 i j) = v (ValueIdx.ix2 i j) :=
  (ValueIdx.shapeCast_1ab_ab_apply _ _ i j).trans (ValueIdx.shapeCast_ab_1ab_apply _ _ 0 i j)

theorem plus_apply (v t : FVec Ideal S64x512 .f32) (i : Fin 64) (j : Fin 512) :
    plus v (msg t) (ValueIdx.ix2 i j) = v (ValueIdx.ix2 i j) + t (ValueIdx.ix2 i j) := by
  unfold plus k0_pay7
  rw [ValueIdx.addf_apply, ValueIdx.extf_apply, msg_back]

theorem next_apply (s t s' t' : FVec Ideal S64x512 .f32) (w : Vec Ideal S1024x2048 .f32) (i : Fin 64) (k : Fin 2048) :
    next s t w (msg s') (msg t') (ValueIdx.ix2 i k)
      = max ((∑ j : Fin 512, (s (ValueIdx.ix2 i j) + s' (ValueIdx.ix2 i j)) * at2 w (lo j) k) + ∑ j : Fin 512, (t (ValueIdx.ix2 i j) + t' (ValueIdx.ix2 i j)) * at2 w (hi j) k) 0 := by
  unfold next k0_pay25 k0_pay24 at2
  rw [ValueIdx.truncf_apply, ValueIdx.maximumf_apply, ValueIdx.addf_apply, mm_half, mm_half]
  refine congrArg₂ max (congrArg₂ (· + ·) (Finset.sum_congr rfl fun j _ => ?_) (Finset.sum_congr rfl fun j _ => ?_)) zero_word
  · rw [ValueIdx.truncf_apply, ValueIdx.addf_apply, ValueIdx.extf_apply, msg_back]
    refine congrArg ((s (ValueIdx.ix2 i j) + s' (ValueIdx.ix2 i j) : EReal) * ·) (Eq.trans ?_ (w_back w (lo j) k))
    exact congrArg (shapeCast S1024x2048 (inW w) shapeCasts_S1x1024x2048_S1024x2048) (funext fun a => by
      match a with
      | ⟨0, _⟩ => exact Fin.ext (Nat.zero_add _)
      | ⟨1, _⟩ => exact Fin.ext (Nat.zero_add _))
  · rw [ValueIdx.truncf_apply, ValueIdx.addf_apply, ValueIdx.extf_apply, msg_back]
    refine congrArg ((t (ValueIdx.ix2 i j) + t' (ValueIdx.ix2 i j) : EReal) * ·) (Eq.trans ?_ (w_back w (hi j) k))
    exact congrArg (shapeCast S1024x2048 (inW w) shapeCasts_S1x1024x2048_S1024x2048) (funext fun a => by
      match a with
      | ⟨0, _⟩ => rfl
      | ⟨1, _⟩ => exact Fin.ext (Nat.zero_add _))

end Cert.Proof

end
-- ==== Proof.Layers.lean ====
/-
# The three layers over the extended reals

A layer of the reference is a product with the first weights, its positive part, and a product with the second. The
kernel's devices hold column blocks of the first weights and row blocks of the second, and sum their products in two
exchanges: the sum over the four devices is the reference's product, and the two halves of its columns are all of them.
-/
module

public import proofs.«01_k».proof.Proof.Products
public import Idealize.ShloMosaic.Lib.Pointwise.Sums
public import proofs.«01_k».proof.Proof.KernelIdealSteps

@[expose] public section

set_option maxRecDepth 16384

noncomputable section

namespace Cert.Proof

open Cert.KernelIdeal Cert.KernelIdeal.Gen Cert.KernelIdealProof
open Idealize.ShloMosaic

/-- Where column `k` of device `c`'s block is in the whole. -/
def blk (c : Dev nD) (k : Fin 2048) : Fin 8192 := ⟨c.val * 2048 + k.val, by have : c.val < 4 := c.isLt; omega⟩

/-- A layer of the reference, entry by entry. -/
def layer (X : Fin 64 → Fin 1024 → EReal) (W : Fin 1024 → Fin 8192 → EReal) (U : Fin 8192 → Fin 1024 → EReal) :
    Fin 64 → Fin 1024 → EReal := dot (reluDot X W) U

/-! ## Sums -/

/-- The two exchanges reach every device once. -/
theorem sum_dev (f : Dev nD → EReal) (c : Dev nD) : (f c + f (p1 c)) + (f (p2 c) + f (p1 (p2 c))) = ∑ d : Dev nD, f d := by
  have hs : ∑ d : Dev nD, f d = f (0 : Fin 4) + f (1 : Fin 4) + f (2 : Fin 4) + f (3 : Fin 4) := Fin.sum_univ_four f
  rw [hs]
  rcases (show c = (0 : Fin 4) ∨ c = (1 : Fin 4) ∨ c = (2 : Fin 4) ∨ c = (3 : Fin 4) by revert c; decide) with h | h | h | h <;> subst h
  · rw [show p1 (0 : Fin 4) = (1 : Fin 4) from rfl, show p2 (0 : Fin 4) = (3 : Fin 4) from rfl, show p1 (3 : Fin 4) = (2 : Fin 4) from rfl]; ac_rfl
  · rw [show p1 (1 : Fin 4) = (0 : Fin 4) from rfl, show p2 (1 : Fin 4) = (2 : Fin 4) from rfl, show p1 (2 : Fin 4) = (3 : Fin 4) from rfl]; ac_rfl
  · rw [show p1 (2 : Fin 4) = (3 : Fin 4) from rfl, show p2 (2 : Fin 4) = (1 : Fin 4) from rfl, show p1 (1 : Fin 4) = (0 : Fin 4) from rfl]; ac_rfl
  · rw [show p1 (3 : Fin 4) = (2 : Fin 4) from rfl, show p2 (3 : Fin 4) = (0 : Fin 4) from rfl, show p1 (0 : Fin 4) = (1 : Fin 4) from rfl]; ac_rfl

/-- The blocks of the four devices are the whole. -/
theorem sum_blocks (f : Fin 8192 → EReal) : ∑ d : Dev nD, ∑ k : Fin 2048, f (blk d k) = ∑ k : Fin 8192, f k :=
  (Fin.sum_univ_tiles 4 2048 rfl f).symm

/-- The two halves are the whole. -/
theorem sum_halves (f : Fin 1024 → EReal) : (∑ k : Fin 512, f (lo k)) + ∑ k : Fin 512, f (hi k) = ∑ k : Fin 1024, f k :=
  (Fin.sum_univ_two_halves 512 512 rfl f).symm

/-! ## One layer -/

/-- A half after the first exchange. -/
def sum2 (a : Dev nD → FVec Ideal S64x512 .f32) (c : Dev nD) : FVec Ideal S64x512 .f32 := plus (a c) (msg (a (p1 c)))

/-- After the second exchange a half is the sum over all devices. -/
theorem sum2_total (a : Dev nD → FVec Ideal S64x512 .f32) (c : Dev nD) (i : Fin 64) (j : Fin 512) :
    sum2 a c (ValueIdx.ix2 i j) + sum2 a (p2 c) (ValueIdx.ix2 i j) = ∑ d : Dev nD, a d (ValueIdx.ix2 i j) := by
  unfold sum2
  rw [plus_apply, plus_apply]
  exact sum_dev (fun d => a d (ValueIdx.ix2 i j)) c

section Layer

variable {X : Fin 64 → Fin 1024 → EReal} {W : Fin 1024 → Fin 8192 → EReal} {U : Fin 8192 → Fin 1024 → EReal}
variable (h : Dev nD → FVec Ideal S64x2048 .bf16) (u : Dev nD → Vec Ideal S2048x1024 .f32)
variable (hh : ∀ c i k, h c (ValueIdx.ix2 i k) = reluDot X W i (blk c k)) (hu : ∀ c k j, at2 (u c) k j = U (blk c k) j)

include hh hu in
/-- The devices' own products add up to the layer. -/
theorem sum_own (i : Fin 64) (j : Fin 1024) : ∑ d : Dev nD, dot (at2 (h d)) (at2 (u d)) i j = layer X W U i j := by
  unfold layer
  refine Eq.trans (Finset.sum_congr rfl fun d _ => ?_) (sum_blocks fun k => reluDot X W i k * U k j)
  refine Finset.sum_congr rfl fun k _ => ?_
  rw [hu]
  exact congrArg (· * U (blk d k) j) (hh d i k)

include hh hu in
theorem total_low (c : Dev nD) (i : Fin 64) (j : Fin 512) :
    sum2 (fun d => low (h d) (u d)) c (ValueIdx.ix2 i j) + sum2 (fun d => low (h d) (u d)) (p2 c) (ValueIdx.ix2 i j) = layer X W U i (lo j) := by
  rw [sum2_total, ← sum_own h u hh hu]
  exact Finset.sum_congr rfl fun d _ => low_apply (h d) (u d) i j

include hh hu in
theorem total_high (c : Dev nD) (i : Fin 64) (j : Fin 512) :
    sum2 (fun d => high (h d) (u d)) c (ValueIdx.ix2 i j) + sum2 (fun d => high (h d) (u d)) (p2 c) (ValueIdx.ix2 i j) = layer X W U i (hi j) := by
  rw [sum2_total, ← sum_own h u hh hu]
  exact Finset.sum_congr rfl fun d _ => high_apply (h d) (u d) i j

include hh hu in
/-- The next layer's hidden activations are the reference's, in the device's columns. -/
theorem next_hid {W' : Fin 1024 → Fin 8192 → EReal} (w : Dev nD → Vec Ideal S1024x2048 .f32) (hw : ∀ c j k, at2 (w c) j k = W' j (blk c k))
    (c : Dev nD) (i : Fin 64) (k : Fin 2048) :
    next (sum2 (fun d => low (h d) (u d)) c) (sum2 (fun d => high (h d) (u d)) c) (w c)
        (msg (sum2 (fun d => low (h d) (u d)) (p2 c))) (msg (sum2 (fun d => high (h d) (u d)) (p2 c))) (ValueIdx.ix2 i k)
      = reluDot (layer X W U) W' i (blk c k) := by
  rw [next_apply]
  unfold reluDot
  refine congrArg (max · 0) (Eq.trans ?_ (sum_halves fun j => layer X W U i j * W' j (blk c k)))
  refine congrArg₂ (· + ·) (Finset.sum_congr rfl fun j _ => ?_) (Finset.sum_congr rfl fun j _ => ?_)
  · rw [total_low h u hh hu, hw]
  · rw [total_high h u hh hu, hw]

end Layer

/-! ## The kernel's result -/

section Result

variable (I : Dev nD → Ins Ideal)

/-- Layer 0's sums, as the body computes them. -/
theorem s0_eq (c : Dev nD) : s0 I c = sum2 (fun d => low (hid0 I d) (I d).u0) c := rfl
theorem s1_eq (c : Dev nD) : s1 I c = sum2 (fun d => high (hid0 I d) (I d).u0) c := rfl
theorem hid1_eq (c : Dev nD) : hid1 I c = next (s0 I c) (s1 I c) (I c).w1 (msg (s0 I (p2 c))) (msg (s1 I (p2 c))) := rfl
/-- Layer 1's. -/
theorem c0_eq (c : Dev nD) : c0 I c = sum2 (fun d => low (hid1 I d) (I d).u1) c := rfl
theorem c1_eq (c : Dev nD) : c1 I c = sum2 (fun d => high (hid1 I d) (I d).u1) c := rfl
theorem hid2_eq (c : Dev nD) : hid2 I c = next (c0 I c) (c1 I c) (I c).w2 (msg (c0 I (p2 c))) (msg (c1 I (p2 c))) := rfl
/-- Layer 2's. -/
theorem e0_eq (c : Dev nD) : e0 I c = sum2 (fun d => low (hid2 I d) (I d).u2) c := rfl
theorem e1_eq (c : Dev nD) : e1 I c = sum2 (fun d => high (hid2 I d) (I d).u2) c := rfl
theorem o0_eq (c : Dev nD) : o0 I c = plus (e0 I c) (msg (e0 I (p2 c))) := rfl
theorem o1_eq (c : Dev nD) : o1 I c = plus (e1 I c) (msg (e1 I (p2 c))) := rfl

variable {X : Fin 64 → Fin 1024 → EReal} {W0 W1 W2 : Fin 1024 → Fin 8192 → EReal} {U0 U1 U2 : Fin 8192 → Fin 1024 → EReal}
variable (hx : ∀ c i j, at2 (I c).x i j = X i j)
variable (hw0 : ∀ c j k, at2 (I c).w0 j k = W0 j (blk c k)) (hu0 : ∀ c k j, at2 (I c).u0 k j = U0 (blk c k) j)
variable (hw1 : ∀ c j k, at2 (I c).w1 j k = W1 j (blk c k)) (hu1 : ∀ c k j, at2 (I c).u1 k j = U1 (blk c k) j)
variable (hw2 : ∀ c j k, at2 (I c).w2 j k = W2 j (blk c k)) (hu2 : ∀ c k j, at2 (I c).u2 k j = U2 (blk c k) j)

include hx hw0 in
theorem hid0_apply (c : Dev nD) (i : Fin 64) (k : Fin 2048) : hid0 I c (ValueIdx.ix2 i k) = reluDot X W0 i (blk c k) := by
  unfold hid0
  rw [first_apply]
  unfold reluDot
  exact congrArg (max · 0) (Finset.sum_congr rfl fun j _ => by rw [hx, hw0])

include hx hw0 hu0 hw1 in
theorem hid1_apply (c : Dev nD) (i : Fin 64) (k : Fin 2048) : hid1 I c (ValueIdx.ix2 i k) = reluDot (layer X W0 U0) W1 i (blk c k) := by
  rw [hid1_eq, s0_eq, s1_eq, s0_eq, s1_eq]
  exact next_hid (hid0 I) (fun d => (I d).u0) (hid0_apply I hx hw0) hu0 (fun d => (I d).w1) hw1 c i k

include hx hw0 hu0 hw1 hu1 hw2 in
theorem hid2_apply (c : Dev nD) (i : Fin 64) (k : Fin 2048) :
    hid2 I c (ValueIdx.ix2 i k) = reluDot (layer (layer X W0 U0) W1 U1) W2 i (blk c k) := by
  rw [hid2_eq, c0_eq, c1_eq, c0_eq, c1_eq]
  exact next_hid (hid1 I) (fun d => (I d).u1) (hid1_apply I hx hw0 hu0 hw1) hu1 (fun d => (I d).w2) hw2 c i k

include hx hw0 hu0 hw1 hu1 hw2 hu2 in
theorem o0_apply (c : Dev nD) (i : Fin 64) (j : Fin 512) :
    o0 I c (ValueIdx.ix2 i j) = layer (layer (layer X W0 U0) W1 U1) W2 U2 i (lo j) := by
  rw [o0_eq, plus_apply, e0_eq, e0_eq]
  exact total_low (hid2 I) (fun d => (I d).u2) (hid2_apply I hx hw0 hu0 hw1 hu1 hw2) hu2 c i j

include hx hw0 hu0 hw1 hu1 hw2 hu2 in
theorem o1_apply (c : Dev nD) (i : Fin 64) (j : Fin 512) :
    o1 I c (ValueIdx.ix2 i j) = layer (layer (layer X W0 U0) W1 U1) W2 U2 i (hi j) := by
  rw [o1_eq, plus_apply, e1_eq, e1_eq]
  exact total_high (hid2 I) (fun d => (I d).u2) (hid2_apply I hx hw0 hu0 hw1 hu1 hw2) hu2 c i j

include hx hw0 hu0 hw1 hu1 hw2 hu2 in
/-- Every device's result is the reference's three layers. -/
theorem outAt_apply (c : Dev nD) (i : Fin 64) (j : Fin 1024) :
    outAt I c (ValueIdx.ix2 i j) = layer (layer (layer X W0 U0) W1 U1) W2 U2 i j := by
  unfold outAt
  by_cases hj : j.val < 512
  · have hn : ¬ ∀ a : Fin 2, (![0, 512] : Fin 2 → ℕ) a ≤ (ValueIdx.ix2 i j a).val ∧ (ValueIdx.ix2 i j a).val < (![0, 512] : Fin 2 → ℕ) a + S64x512.size a := fun h => by
      have := (h 1).1
      exact absurd (show 512 ≤ j.val from this) (by omega)
    have hin : ∀ a : Fin 2, (![0, 0] : Fin 2 → ℕ) a ≤ (ValueIdx.ix2 i j a).val ∧ (ValueIdx.ix2 i j a).val < (![0, 0] : Fin 2 → ℕ) a + S64x512.size a := fun a => by
      match a with
      | ⟨0, _⟩ => exact ⟨Nat.zero_le _, by show i.val < 0 + 64; omega⟩
      | ⟨1, _⟩ => exact ⟨Nat.zero_le _, by show j.val < 0 + 512; omega⟩
    have hl : lo ⟨j.val, hj⟩ = j := rfl
    refine Eq.trans (dif_neg hn) ((dif_pos hin).trans ?_)
    rw [← congrArg (layer (layer (layer X W0 U0) W1 U1) W2 U2 i) hl, ← o0_apply I hx hw0 hu0 hw1 hu1 hw2 hu2 c]
    exact congrArg (o0 I c) (funext fun a => by
      match a with
      | ⟨0, _⟩ => rfl
      | ⟨1, _⟩ => rfl)
  · have hin : ∀ a : Fin 2, (![0, 512] : Fin 2 → ℕ) a ≤ (ValueIdx.ix2 i j a).val ∧ (ValueIdx.ix2 i j a).val < (![0, 512] : Fin 2 → ℕ) a + S64x512.size a := fun a => by
      match a with
      | ⟨0, _⟩ => exact ⟨Nat.zero_le _, by show i.val < 0 + 64; omega⟩
      | ⟨1, _⟩ => exact ⟨by show 512 ≤ j.val; omega, by show j.val < 512 + 512; omega⟩
    have hl : hi ⟨j.val - 512, by omega⟩ = j := Fin.ext (show 512 + (j.val - 512) = j.val by omega)
    refine Eq.trans (dif_pos hin) ?_
    rw [← congrArg (layer (layer (layer X W0 U0) W1 U1) W2 U2 i) hl, ← o1_apply I hx hw0 hu0 hw1 hu1 hw2 hu2 c]
    exact congrArg (o1 I c) (funext fun a => by
      match a with
      | ⟨0, _⟩ => rfl
      | ⟨1, _⟩ => rfl)

end Result

end Cert.Proof

end
-- ==== Proof.Value.lean ====
/-
# The value claim

The reference's result is its three layers; every device's result is the same; so both programs end with one array.
-/
module

public import proofs.«01_k».proof.Defs
public import proofs.«01_k».proof.Proof.KernelIdealRun
public import proofs.«01_k».proof.Proof.Layers
public import proofs.«01_k».proof.Proof.Gen.ReferenceIdeal.Run

@[expose] public section

set_option maxRecDepth 16384

noncomputable section

namespace Cert.Proof

open Idealize.ShloMosaic Idealize.SL.Sem

/-! ## The reference -/

/-- A product on the host, at an index. -/
theorem host_apply {K N : ℕ} (d : DotDims ⟨2, ![64, K]⟩ ⟨2, ![K, N]⟩ ⟨2, ![64, N]⟩) (hd : d = DotDims.plain 64 K N)
    (l : FVec Ideal ⟨2, ![64, K]⟩ .f32) (r : FVec Ideal ⟨2, ![K, N]⟩ .f32) (i : Fin 64) (j : Fin N) :
    Host.dotGeneral d none l r (ValueIdx.ix2 i j) = dot (at2 l) (at2 r) i j :=
  Eq.trans ((Ideal.dotGeneral_apply d none _ l r (ValueIdx.ix2 i j)).trans ((zero_add _).symm.trans (Ideal.matmul_apply d none l r (fun _ => (0 : EReal)) (ValueIdx.ix2 i j)).symm)) (by
    subst hd
    exact (Ideal.matmul_plain_apply none l r (fun _ => (0 : EReal)) i j).trans (zero_add _))

/-- A layer of the reference, as its operations spell it. -/
def refLayer (x : FVec Ideal Cert.ReferenceIdeal.S64x1024 .f32) (w : FVec Ideal Cert.ReferenceIdeal.S1024x8192 .f32) (u : FVec Ideal Cert.ReferenceIdeal.S8192x1024 .f32) :
    FVec Ideal Cert.ReferenceIdeal.S64x1024 .f32 :=
  Host.dotGeneral Cert.ReferenceIdeal.dot_S64x8192_S8192x1024_S64x1024_1_0_0_1_n_n none
    (maximumf (Host.dotGeneral Cert.ReferenceIdeal.dot_S64x1024_S1024x8192_S64x8192_1_0_0_1_n_n none x w)
      (broadcastInDim Cert.ReferenceIdeal.S64x8192 ![] Cert.ReferenceIdeal.Gen.bcast_S_S64x8192 (constant Cert.ReferenceIdeal.S_ .f32 0x00000000#32))) u

/-- It is the layer of the extended reals. -/
theorem refLayer_apply (x : FVec Ideal Cert.ReferenceIdeal.S64x1024 .f32) (w : FVec Ideal Cert.ReferenceIdeal.S1024x8192 .f32) (u : FVec Ideal Cert.ReferenceIdeal.S8192x1024 .f32) :
    at2 (refLayer x w u) = layer (at2 x) (at2 w) (at2 u) := by
  funext i j
  unfold refLayer layer
  refine (host_apply _ rfl _ _ i j).trans ?_
  refine Finset.sum_congr rfl fun k _ => congrArg (· * at2 u k j) ?_
  exact congrArg₂ max (host_apply _ rfl x w i k) zero_word

/-! ## What the devices hold of the reference's arguments -/

/-- A device's slice of a first weight, at an index. -/
theorem block_cols (v : FVec Ideal Cert.ReferenceIdeal.S1024x8192 .f32) (h : Layout.Tiles ⟨2, ![1024, 2048]⟩ ⟨2, ![1024, 8192]⟩ 1 4) (c : Fin 4)
    (i : Fin 1024) (k : Fin 2048) :
    at2 (Layout.block ⟨2, ![1024, 2048]⟩ ⟨2, ![1024, 8192]⟩ 1 4 c v h) i k = at2 v i (blk c k) := by
  refine congrArg v (funext fun a => Fin.ext ?_)
  match a with
  | ⟨0, _⟩ => exact (Layout.idx_cols_val h c (ValueIdx.ix2 i k)).1
  | ⟨1, _⟩ => exact (Layout.idx_cols_val h c (ValueIdx.ix2 i k)).2

/-- A device's slice of a second weight, at an index. -/
theorem block_rows (v : FVec Ideal Cert.ReferenceIdeal.S8192x1024 .f32) (h : Layout.Tiles ⟨2, ![2048, 1024]⟩ ⟨2, ![8192, 1024]⟩ 0 4) (c : Fin 4)
    (k : Fin 2048) (j : Fin 1024) :
    at2 (Layout.block ⟨2, ![2048, 1024]⟩ ⟨2, ![8192, 1024]⟩ 0 4 c v h) k j = at2 v (blk c k) j := by
  refine congrArg v (funext fun a => Fin.ext ?_)
  match a with
  | ⟨0, _⟩ => exact (Layout.idx_rows_val h c (ValueIdx.ix2 k j)).1
  | ⟨1, _⟩ => exact (Layout.idx_rows_val h c (ValueIdx.ix2 k j)).2

/-- Given the rows in full and its slice of every weight, every device ends with the reference's three layers. -/
theorem outAt_eq (I : Fin 4 → Cert.KernelIdealProof.Ins Ideal)
    (x : FVec Ideal Cert.ReferenceIdeal.S64x1024 .f32) (w0 w1 w2 : FVec Ideal Cert.ReferenceIdeal.S1024x8192 .f32) (u0 u1 u2 : FVec Ideal Cert.ReferenceIdeal.S8192x1024 .f32)
    (h1 : Layout.Tiles ⟨2, ![1024, 2048]⟩ ⟨2, ![1024, 8192]⟩ 1 4) (h0 : Layout.Tiles ⟨2, ![2048, 1024]⟩ ⟨2, ![8192, 1024]⟩ 0 4)
    (hx : ∀ c, (I c).x = x)
    (hw0 : ∀ c, (I c).w0 = Layout.block ⟨2, ![1024, 2048]⟩ ⟨2, ![1024, 8192]⟩ 1 4 c w0 h1)
    (hu0 : ∀ c, (I c).u0 = Layout.block ⟨2, ![2048, 1024]⟩ ⟨2, ![8192, 1024]⟩ 0 4 c u0 h0)
    (hw1 : ∀ c, (I c).w1 = Layout.block ⟨2, ![1024, 2048]⟩ ⟨2, ![1024, 8192]⟩ 1 4 c w1 h1)
    (hu1 : ∀ c, (I c).u1 = Layout.block ⟨2, ![2048, 1024]⟩ ⟨2, ![8192, 1024]⟩ 0 4 c u1 h0)
    (hw2 : ∀ c, (I c).w2 = Layout.block ⟨2, ![1024, 2048]⟩ ⟨2, ![1024, 8192]⟩ 1 4 c w2 h1)
    (hu2 : ∀ c, (I c).u2 = Layout.block ⟨2, ![2048, 1024]⟩ ⟨2, ![8192, 1024]⟩ 0 4 c u2 h0)
    (c : Fin 4) :
    Cert.KernelIdealProof.outAt I c = refLayer (refLayer (refLayer x w0 u0) w1 u1) w2 u2 := by
  have href : at2 (refLayer (refLayer (refLayer x w0 u0) w1 u1) w2 u2)
      = layer (layer (layer (at2 x) (at2 w0) (at2 u0)) (at2 w1) (at2 u1)) (at2 w2) (at2 u2) :=
    (refLayer_apply _ w2 u2).trans (congrArg (fun y => layer y (at2 w2) (at2 u2))
      ((refLayer_apply _ w1 u1).trans (congrArg (fun y => layer y (at2 w1) (at2 u1)) (refLayer_apply x w0 u0))))
  refine funext fun (ij : (⟨2, ![64, 1024]⟩ : Shape).Idx) => ?_
  rw [ValueIdx.eq_ix2 ij]
  refine (outAt_apply I (X := at2 x)
    (W0 := at2 w0) (U0 := at2 u0) (W1 := at2 w1) (U1 := at2 u1) (W2 := at2 w2) (U2 := at2 u2)
    (fun d i j => congrArg (fun y => at2 y i j) (hx d))
    (fun d i k => (congrArg (fun y => at2 y i k) (hw0 d)).trans (block_cols w0 h1 d i k))
    (fun d k j => (congrArg (fun y => at2 y k j) (hu0 d)).trans (block_rows u0 h0 d k j))
    (fun d i k => (congrArg (fun y => at2 y i k) (hw1 d)).trans (block_cols w1 h1 d i k))
    (fun d k j => (congrArg (fun y => at2 y k j) (hu1 d)).trans (block_rows u1 h0 d k j))
    (fun d i k => (congrArg (fun y => at2 y i k) (hw2 d)).trans (block_cols w2 h1 d i k))
    (fun d k j => (congrArg (fun y => at2 y k j) (hu2 d)).trans (block_rows u2 h0 d k j))
    c (ij 0) (ij 1)).trans ?_
  exact (congrFun (congrFun href (ij 0)) (ij 1)).symm

/-! ## The claim -/

/-- The idealized kernel computes the reference on every device. -/
theorem algebraic : Cert.algebraic_KernelIdeal_ReferenceIdeal := by
  intro m g m' g' _ hin
  refine ⟨refLayer (refLayer (refLayer
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)))
      (m' (((0 : Dev Cert.ReferenceIdeal.nD).tc : Thread Cert.ReferenceIdeal.nD Cert.ReferenceIdeal.τ).loc Cert.ReferenceIdeal.main_arg5))
      (m' (((0 : Dev Cert.ReferenceIdeal.nD).tc : Thread Cert.ReferenceIdeal.nD Cert.ReferenceIdeal.τ).loc Cert.ReferenceIdeal.main_arg6)), ?_, ?_⟩
  · exact (θ_run Cert.KernelIdeal.defs _ _).mono
      (fun r h c => ⟨((h.1 c).1).trans (outAt_eq (Cert.KernelIdealProof.ins m) _ _ _ _ _ _ _ _ _
        (fun d => (Cert.KernelIdealProof.ins_x m d).trans (hin d).1)
        (fun d => (hin d).2.1) (fun d => (hin d).2.2.1) (fun d => (hin d).2.2.2.1) (fun d => (hin d).2.2.2.2.1)
        (fun d => (hin d).2.2.2.2.2.1) (fun d => (hin d).2.2.2.2.2.2) c), (h.1 c).2.1, (h.1 c).2.2⟩)
      (Cert.KernelIdealProof.run (F := Ideal) m g)
  · exact (θ_run Cert.ReferenceIdeal.defs _ _).mono (fun r h => h 0) (Cert.ReferenceIdeal.Value.run (F := Ideal) m' g')

end Cert.Proof

end
-- ==== Proof.lean ====
/-
# The certificate

The frames are in Proof/Frames.lean, the value claim in Proof/Value.lean.
-/
module

public import proofs.«01_k».proof.Proof.Frames
public import proofs.«01_k».proof.Proof.Value

@[expose] public section

noncomputable section

namespace Cert.Proof

/-- Every claim of the certificate. -/
theorem claim : Cert.Claim :=
  ⟨Cert.Kernel.Gen.facts, Cert.KernelIdeal.Gen.facts, Cert.ReferenceIdeal.Gen.facts, frame_p, frame_pi, frame_r, trivial, algebraic⟩

end Cert.Proof

end
